-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_roundable [hPre_roundable : Cert.Pre_roundable.Facts] (m : (ℓ : Loc Cert.KernelIdeal.nD Cert.KernelIdeal.τ Cert.KernelIdeal.sig) → Buf (Elt Ideal) ℓ) : Prop :=
  ∀ c : Dev Cert.KernelIdeal.nD,
    (Cert.Pre_roundable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_roundable [hPre_roundable : Cert.Pre_roundable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roundable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_roundable [hKernelIdeal : Cert.KernelIdeal.Facts] [hPre_roundable : Cert.Pre_roundable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roundable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_roundable [hReferenceIdeal : Cert.ReferenceIdeal.Facts] [hPre_roundable : Cert.Pre_roundable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roundable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_roundable [hKernelIdeal : Cert.KernelIdeal.Facts] [hReferenceIdeal : Cert.ReferenceIdeal.Facts] [hPre_roundable : Cert.Pre_roundable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roundable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_roundable : Cert.Pre_roundable.Facts),
    quiescent_Kernel (hKernel := hKernel)
    ∧ quiescent_KernelIdeal (hKernelIdeal := hKernelIdeal)
    ∧ quiescent_KernelIdeal_pre_roundable (hKernelIdeal := hKernelIdeal) (hPre_roundable := hPre_roundable)
    ∧ quiescent_ReferenceIdeal (hReferenceIdeal := hReferenceIdeal)
    ∧ quiescent_ReferenceIdeal_pre_roundable (hReferenceIdeal := hReferenceIdeal) (hPre_roundable := hPre_roundable)
    ∧ preserves_Kernel_KernelIdeal
    ∧ algebraic_KernelIdeal_ReferenceIdeal_pre_roundable (hKernelIdeal := hKernelIdeal) (hReferenceIdeal := hReferenceIdeal) (hPre_roundable := hPre_roundable)
-- ==== Pre_roundable.lean ====
abbrev S8x4x16384 : Shape := ⟨3, ![8, 4, 16384]⟩
abbrev S8x4x32x64 : Shape := ⟨4, ![8, 4, 32, 64]⟩
abbrev S8x32768x512 : Shape := ⟨3, ![8, 32768, 512]⟩
abbrev S8x32768x4 : Shape := ⟨3, ![8, 32768, 4]⟩
abbrev S8x32768x64 : Shape := ⟨3, ![8, 32768, 64]⟩
abbrev S8 : Shape := ⟨1, ![8]⟩
abbrev S8x4x512 : Shape := ⟨3, ![8, 4, 512]⟩
abbrev S8x4x4 : Shape := ⟨3, ![8, 4, 4]⟩
abbrev S8x4x64 : Shape := ⟨3, ![8, 4, 64]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x4x16384 .bf16) (main_arg1 : FVec F S8x4x32x64 .bf16) (main_arg2 : FVec F S8x32768x512 .fp8e4m3) (main_arg3 : FVec F S8x32768x4 .f32) (main_arg4 : FVec F S8x32768x64 .bf16) (main_arg5 : IVec S8 32) (main_arg6 : FVec F S8x4x512 .fp8e4m3) (main_arg7 : FVec F S8x4x4 .f32) (main_arg8 : FVec F S8x4x64 .bf16) : IVec S8 1 :=
  let main_c : IVec S_ 32 := constantI S_ 32 2147482624#32
  let main_v0 : IVec S8 32 := broadcastInDim S8 ![] bcast_S_S8 main_c
  let main_v1 : IVec S8 1 := cmpi .sle main_arg5 main_v0
  main_v1
-- ==== Kernel.lean ====
abbrev S8x4x16384 : Shape := ⟨3, ![8, 4, 16384]⟩
abbrev S8x4x32x64 : Shape := ⟨4, ![8, 4, 32, 64]⟩
abbrev S8x32768x512 : Shape := ⟨3, ![8, 32768, 512]⟩
abbrev S8x32768x4 : Shape := ⟨3, ![8, 32768, 4]⟩
abbrev S8x32768x64 : Shape := ⟨3, ![8, 32768, 64]⟩
abbrev S8 : Shape := ⟨1, ![8]⟩
abbrev S8x4x512 : Shape := ⟨3, ![8, 4, 512]⟩
abbrev S8x4x4 : Shape := ⟨3, ![8, 4, 4]⟩
abbrev S8x4x64 : Shape := ⟨3, ![8, 4, 64]⟩
abbrev S8x128x512 : Shape := ⟨3, ![8, 128, 512]⟩
abbrev S8x128x64 : Shape := ⟨3, ![8, 128, 64]⟩
abbrev S8x4x32768 : Shape := ⟨3, ![8, 4, 32768]⟩
abbrev S8x64x32768 : Shape := ⟨3, ![8, 64, 32768]⟩
abbrev S1x128x512 : Shape := ⟨3, ![1, 128, 512]⟩
abbrev S1x128x64 : Shape := ⟨3, ![1, 128, 64]⟩
abbrev S1x1024x512 : Shape := ⟨3, ![1, 1024, 512]⟩
abbrev S1 : Shape := ⟨1, ![1]⟩
abbrev S1x4x1024 : Shape := ⟨3, ![1, 4, 1024]⟩
abbrev S1x64x1024 : Shape := ⟨3, ![1, 64, 1024]⟩
abbrev S1x4x512 : Shape := ⟨3, ![1, 4, 512]⟩
abbrev S1x4x4 : Shape := ⟨3, ![1, 4, 4]⟩
abbrev S1x4x64 : Shape := ⟨3, ![1, 4, 64]⟩
abbrev S128x128 : Shape := ⟨2, ![128, 128]⟩
abbrev S128x512 : Shape := ⟨2, ![128, 512]⟩
abbrev S4x512 : Shape := ⟨2, ![4, 512]⟩
abbrev S4x4x128 : Shape := ⟨3, ![4, 4, 128]⟩
abbrev S4x4 : Shape := ⟨2, ![4, 4]⟩
abbrev S4x4x1 : Shape := ⟨3, ![4, 4, 1]⟩
abbrev S128x4 : Shape := ⟨2, ![128, 4]⟩
abbrev S128x64 : Shape := ⟨2, ![128, 64]⟩
abbrev S4x64 : Shape := ⟨2, ![4, 64]⟩
abbrev S128 : Shape := ⟨1, ![128]⟩
abbrev S128x1 : Shape := ⟨2, ![128, 1]⟩
abbrev S64x1024 : Shape := ⟨2, ![64, 1024]⟩
abbrev S128x1024 : Shape := ⟨2, ![128, 1024]⟩
abbrev S1x128x128 : Shape := ⟨3, ![1, 128, 128]⟩
abbrev S1x1024x128 : Shape := ⟨3, ![1, 1024, 128]⟩
abbrev S1024x128 : Shape := ⟨2, ![1024, 128]⟩
abbrev S1x1x1024 : Shape := ⟨3, ![1, 1, 1024]⟩
abbrev S1x1024 : Shape := ⟨2, ![1, 1024]⟩
abbrev S4x1024 : Shape := ⟨2, ![4, 1024]⟩
abbrev S1024x4 : Shape := ⟨2, ![1024, 4]⟩
abbrev S1024x1 : Shape := ⟨2, ![1024, 1]⟩

abbrev nBuf : Space → Nat
  | .hbm => 13
  | .vmem => 21
  | .smem => 1
  | _ => 0

abbrev bufTy : (tb : Table) → Fin (tcTables nBuf tb) → BufTy
  | .hbm, ⟨0, _⟩ => ⟨S8x4x16384, .bf16⟩
  | .hbm, ⟨1, _⟩ => ⟨S8x4x32x64, .bf16⟩
  | .hbm, ⟨2, _⟩ => ⟨S8x32768x512, .fp8e4m3⟩
  | .hbm, ⟨3, _⟩ => ⟨S8x32768x4, .f32⟩
  | .hbm, ⟨4, _⟩ => ⟨S8x32768x64, .bf16⟩
  | .hbm, ⟨5, _⟩ => ⟨S8x4x512, .fp8e4m3⟩
  | .hbm, ⟨6, _⟩ => ⟨S8x4x4, .f32⟩
  | .hbm, ⟨7, _⟩ => ⟨S8x4x64, .bf16⟩
  | .hbm, ⟨8, _⟩ => ⟨S8x128x512, .bf16⟩
  | .hbm, ⟨9, _⟩ => ⟨S8x128x64, .bf16⟩
  | .hbm, ⟨10, _⟩ => ⟨S8x4x32768, .f32⟩
  | .hbm, ⟨11, _⟩ => ⟨S8x64x32768, .bf16⟩
  | .hbm, ⟨12, _⟩ => ⟨S8x128x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x64, .bf16⟩
  | .local _ .vmem, ⟨3, _⟩ => ⟨S1x128x64, .bf16⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S1x4x1024, .f32⟩
  | .local _ .vmem, ⟨7, _⟩ => ⟨S1x4x1024, .f32⟩
  | .local _ .vmem, ⟨8, _⟩ => ⟨S1x64x1024, .bf16⟩
  | .local _ .vmem, ⟨9, _⟩ => ⟨S1x64x1024, .bf16⟩
  | .local _ .vmem, ⟨10, _⟩ => ⟨S1x4x512, .fp8e4m3⟩
  | .local _ .vmem, ⟨11, _⟩ => ⟨S1x4x512, .fp8e4m3⟩
  | .local _ .vmem, ⟨12, _⟩ => ⟨S1x4x4, .f32⟩
  | .local _ .vmem, ⟨13, _⟩ => ⟨S1x4x4, .f32⟩
  | .local _ .vmem, ⟨14, _⟩ => ⟨S1x4x64, .bf16⟩
  | .local _ .vmem, ⟨15, _⟩ => ⟨S1x4x64, .bf16⟩
  | .local _ .vmem, ⟨16, _⟩ => ⟨S1x128x512, .bf16⟩
  | .local _ .vmem, ⟨17, _⟩ => ⟨S1x128x512, .bf16⟩
  | .local _ .vmem, ⟨18, _⟩ => ⟨S128x128, .f32⟩
  | .local _ .vmem, ⟨19, _⟩ => ⟨S128x128, .f32⟩
  | .local _ .vmem, ⟨20, _⟩ => ⟨S128x512, .f32⟩
  | .local _ .smem, ⟨0, _⟩ => ⟨S8, .i32⟩
  | _, _ => ⟨S8x4x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c31_i32 : BitVec 32 := 31#32
  let v9 : BitVec 1 := Scalar.cmpi .eq arg1 c31_i32
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, c0_i32_0.toNat, v6.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, c0_i32_0.toNat, v6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x4x16384 : Shape := ⟨3, ![8, 4, 16384]⟩
abbrev S8x4x32x64 : Shape := ⟨4, ![8, 4, 32, 64]⟩
abbrev S8x32768x512 : Shape := ⟨3, ![8, 32768, 512]⟩
abbrev S8x32768x4 : Shape := ⟨3, ![8, 32768, 4]⟩
abbrev S8x32768x64 : Shape := ⟨3, ![8, 32768, 64]⟩
abbrev S8 : Shape := ⟨1, ![8]⟩
abbrev S8x4x512 : Shape := ⟨3, ![8, 4, 512]⟩
abbrev S8x4x4 : Shape := ⟨3, ![8, 4, 4]⟩
abbrev S8x4x64 : Shape := ⟨3, ![8, 4, 64]⟩
abbrev S8x4x32x512 : Shape := ⟨4, ![8, 4, 32, 512]⟩
abbrev S8x4x4x128 : Shape := ⟨4, ![8, 4, 4, 128]⟩
abbrev S8x4x32x128 : Shape := ⟨4, ![8, 4, 32, 128]⟩
abbrev S8x32768x128 : Shape := ⟨3, ![8, 32768, 128]⟩
abbrev S8x4x32x32768 : Shape := ⟨4, ![8, 4, 32, 32768]⟩
abbrev S8x32768x1 : Shape := ⟨3, ![8, 32768, 1]⟩
abbrev S8x32768 : Shape := ⟨2, ![8, 32768]⟩
abbrev S8x1x1x32768 : Shape := ⟨4, ![8, 1, 1, 32768]⟩
abbrev S_ : Shape := ⟨0, ![]⟩
abbrev S8x4x32x4 : Shape := ⟨4, ![8, 4, 32, 4]⟩
abbrev S32768 : Shape := ⟨1, ![32768]⟩
abbrev S1x32768 : Shape := ⟨2, ![1, 32768]⟩
abbrev S8x1 : Shape := ⟨2, ![8, 1]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S1x4x1x4 : Shape := ⟨4, ![1, 4, 1, 4]⟩
abbrev S8x4x32 : Shape := ⟨3, ![8, 4, 32]⟩
abbrev S8x4x32x1 : Shape := ⟨4, ![8, 4, 32, 1]⟩
abbrev S8x128x512 : Shape := ⟨3, ![8, 128, 512]⟩

abbrev nBuf : Space → Nat
  | .hbm => 156
  | .vmem => 4
  | .smem => 0
  | _ => 0

abbrev hbmTy0_0 (i : Nat) : BufTy := match i % 128 with
  | 0 => ⟨S8x4x16384, .bf16⟩
  | 1 => ⟨S8x4x32x64, .bf16⟩
  | 2 => ⟨S8x32768x512, .fp8e4m3⟩
  | 3 => ⟨S8x32768x4, .f32⟩
  | 4 => ⟨S8x32768x64, .bf16⟩
  | 5 => ⟨S8, .i32⟩
  | 6 => ⟨S8x4x512, .fp8e4m3⟩
  | 7 => ⟨S8x4x4, .f32⟩
  | 8 => ⟨S8x4x64, .bf16⟩
  | 9 => ⟨S8x32768x512, .bf16⟩
  | 10 => ⟨S8x4x512, .bf16⟩
  | 11 => ⟨S8x4x32x512, .bf16⟩
  | 12 => ⟨S8x4x4, .bf16⟩
  | 13 => ⟨S8x4x4x128, .bf16⟩
  | 14 => ⟨S8x4x512, .bf16⟩
  | 15 => ⟨S8x4x512, .bf16⟩
  | 16 => ⟨S8x4x32x128, .bf16⟩
  | 17 => ⟨S8x32768x128, .bf16⟩
  | 18 => ⟨S8x4x32x32768, .f32⟩
  | 19 => ⟨S8x32768x1, .f32⟩
  | 20 => ⟨S8x32768, .f32⟩
  | 21 => ⟨S8x1x1x32768, .f32⟩
  | 22 => ⟨S8x4x32x32768, .f32⟩
  | 23 => ⟨S8x4x32x32768, .f32⟩
  | 24 => ⟨S8x4x32x128, .bf16⟩
  | 25 => ⟨S8x32768x128, .bf16⟩
  | 26 => ⟨S8x4x32x32768, .f32⟩
  | 27 => ⟨S8x32768x1, .f32⟩
  | 28 => ⟨S8x32768, .f32⟩
  | 29 => ⟨S8x1x1x32768, .f32⟩
  | 30 => ⟨S8x4x32x32768, .f32⟩
  | 31 => ⟨S8x4x32x32768, .f32⟩
  | 32 => ⟨S8x4x32x32768, .f32⟩
  | 33 => ⟨S8x4x32x128, .bf16⟩
  | 34 => ⟨S8x32768x128, .bf16⟩
  | 35 => ⟨S8x4x32x32768, .f32⟩
  | 36 => ⟨S8x32768x1, .f32⟩
  | 37 => ⟨S8x32768, .f32⟩
  | 38 => ⟨S8x1x1x32768, .f32⟩
  | 39 => ⟨S8x4x32x32768, .f32⟩
  | 40 => ⟨S8x4x32x32768, .f32⟩
  | 41 => ⟨S8x4x32x32768, .f32⟩
  | 42 => ⟨S8x4x32x128, .bf16⟩
  | 43 => ⟨S8x32768x128, .bf16⟩
  | 44 => ⟨S8x4x32x32768, .f32⟩
  | 45 => ⟨S8x32768x1, .f32⟩
  | 46 => ⟨S8x32768, .f32⟩
  | 47 => ⟨S8x1x1x32768, .f32⟩
  | 48 => ⟨S8x4x32x32768, .f32⟩
  | 49 => ⟨S8x4x32x32768, .f32⟩
  | 50 => ⟨S8x4x32x32768, .f32⟩
  | 51 => ⟨S8x4x32x32768, .f32⟩
  | 52 => ⟨S8x4x32x32768, .f32⟩
  | 53 => ⟨S_, .f32⟩
  | 54 => ⟨S8x4x32x32768, .f32⟩
  | 55 => ⟨S8x4x32x32768, .f32⟩
  | 56 => ⟨S8x4x32x4, .f32⟩
  | 57 => ⟨S8x4x32x4, .f32⟩
  | 58 => ⟨S8x4x32x4, .f32⟩
  | 59 => ⟨S_, .f32⟩
  | 60 => ⟨S8x4x32x4, .f32⟩
  | 61 => ⟨S8x4x32x4, .f32⟩
  | 62 => ⟨S32768, .i32⟩
  | 63 => ⟨S1x32768, .i32⟩
  | 64 => ⟨S8x1, .i32⟩
  | 65 => ⟨S8x32768, .i32⟩
  | 66 => ⟨S8x32768, .i32⟩
  | 67 => ⟨S8x32768, .i1⟩
  | 68 => ⟨S8x1x1x32768, .i1⟩
  | 69 => ⟨S4, .i32⟩
  | 70 => ⟨S1x4, .i32⟩
  | 71 => ⟨S4, .i32⟩
  | 72 => ⟨S4x1, .i32⟩
  | 73 => ⟨S4x4, .i32⟩
  | 74 => ⟨S4x4, .i32⟩
  | 75 => ⟨S4x4, .i1⟩
  | 76 => ⟨S1x4x1x4, .i1⟩
  | 77 => ⟨S_, .f32⟩
  | 78 => ⟨S_, .f32⟩
  | 79 => ⟨S8x4x32x32768, .i1⟩
  | 80 => ⟨S8x4x32x32768, .f32⟩
  | 81 => ⟨S8x4x32x32768, .f32⟩
  | 82 => ⟨S_, .f32⟩
  | 83 => ⟨S_, .f32⟩
  | 84 => ⟨S8x4x32x4, .i1⟩
  | 85 => ⟨S8x4x32x4, .f32⟩
  | 86 => ⟨S8x4x32x4, .f32⟩
  | 87 => ⟨S_, .f32⟩
  | 88 => ⟨S8x4x32, .f32⟩
  | 89 => ⟨S_, .f32⟩
  | 90 => ⟨S8x4x32, .f32⟩
  | 91 => ⟨S8x4x32, .f32⟩
  | 92 => ⟨S8x4x32x1, .f32⟩
  | 93 => ⟨S8x4x32x32768, .f32⟩
  | 94 => ⟨S8x4x32x32768, .f32⟩
  | 95 => ⟨S8x4x32x32768, .f32⟩
  | 96 => ⟨S8x4x32x4, .f32⟩
  | 97 => ⟨S8x4x32x4, .f32⟩
  | 98 => ⟨S8x4x32x4, .f32⟩
  | 99 => ⟨S_, .f32⟩
  | 100 => ⟨S8x4x32, .f32⟩
  | 101 => ⟨S_, .f32⟩
  | 102 => ⟨S8x4x32, .f32⟩
  | 103 => ⟨S8x4x32, .f32⟩
  | 104 => ⟨S8x4x32x1, .f32⟩
  | 105 => ⟨S_, .f32⟩
  | 106 => ⟨S8x4x32x1, .f32⟩
  | 107 => ⟨S8x4x32x1, .i1⟩
  | 108 => ⟨S8x4x32x32768, .f32⟩
  | 109 => ⟨S8x4x32x32768, .f32⟩
  | 110 => ⟨S_, .f32⟩
  | 111 => ⟨S_, .f32⟩
  | 112 => ⟨S8x4x32x32768, .i1⟩
  | 113 => ⟨S8x4x32x32768, .f32⟩
  | 114 => ⟨S8x4x32x32768, .f32⟩
  | 115 => ⟨S8x4x32x32768, .bf16⟩
  | 116 => ⟨S_, .f32⟩
  | 117 => ⟨S8x4x32x1, .f32⟩
  | 118 => ⟨S8x4x32x1, .i1⟩
  | 119 => ⟨S8x4x32x4, .f32⟩
  | 120 => ⟨S8x4x32x4, .f32⟩
  | 121 => ⟨S_, .f32⟩
  | 122 => ⟨S_, .f32⟩
  | 123 => ⟨S8x4x32x4, .i1⟩
  | 124 => ⟨S8x4x32x4, .f32⟩
  | 125 => ⟨S8x4x32x4, .f32⟩
  | 126 => ⟨S8x4x32x4, .bf16⟩
  | 127 => ⟨S8x32768x128, .bf16⟩
  | _ => ⟨S8x4x16384, .bf16⟩

abbrev hbmTy0_1 (i : Nat) : BufTy := match i % 128 with
  | 0 => ⟨S8x32768x1, .f32⟩
  | 1 => ⟨S8x32768x1, .bf16⟩
  | 2 => ⟨S8x32768x128, .bf16⟩
  | 3 => ⟨S8x32768x128, .bf16⟩
  | 4 => ⟨S8x4x32x128, .f32⟩
  | 5 => ⟨S8x32768x128, .bf16⟩
  | 6 => ⟨S8x32768x1, .f32⟩
  | 7 => ⟨S8x32768x1, .bf16⟩
  | 8 => ⟨S8x32768x128, .bf16⟩
  | 9 => ⟨S8x32768x128, .bf16⟩
  | 10 => ⟨S8x4x32x128, .f32⟩
  | 11 => ⟨S8x32768x128, .bf16⟩
  | 12 => ⟨S8x32768x1, .f32⟩
  | 13 => ⟨S8x32768x1, .bf16⟩
  | 14 => ⟨S8x32768x128, .bf16⟩
  | 15 => ⟨S8x32768x128, .bf16⟩
  | 16 => ⟨S8x4x32x128, .f32⟩
  | 17 => ⟨S8x32768x128, .bf16⟩
  | 18 => ⟨S8x32768x1, .f32⟩
  | 19 => ⟨S8x32768x1, .bf16⟩
  | 20 => ⟨S8x32768x128, .bf16⟩
  | 21 => ⟨S8x32768x128, .bf16⟩
  | 22 => ⟨S8x4x32x128, .f32⟩
  | 23 => ⟨S8x4x32x512, .f32⟩
  | 24 => ⟨S8x4x32x512, .f32⟩
  | 25 => ⟨S8x4x32x512, .f32⟩
  | 26 => ⟨S8x4x32x512, .bf16⟩
  | 27 => ⟨S8x128x512, .bf16⟩
  | _ => ⟨S8x4x16384, .bf16⟩

abbrev hbmTy (i : Nat) : BufTy := match i / 128 with
  | 0 => hbmTy0_0 i
  | 1 => hbmTy0_1 i
  | _ => ⟨S8x4x16384, .bf16⟩

abbrev bufTy : (tb : Table) → Fin (tcTables nBuf tb) → BufTy
  | .hbm, ⟨i, _⟩ => hbmTy i
  | .local _ .vmem, ⟨0, _⟩ => ⟨S8x32768x512, .fp8e4m3⟩
  | .local _ .vmem, ⟨1, _⟩ => ⟨S8x4x512, .fp8e4m3⟩
  | .local _ .vmem, ⟨2, _⟩ => ⟨S8x32768x512, .bf16⟩
  | .local _ .vmem, ⟨3, _⟩ => ⟨S8x4x512, .bf16⟩
  | _, _ => ⟨S8x4x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_0 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_1 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v65 : Ref sig .tc := ⟨.hbm, 81, rfl⟩
abbrev main_cst_2 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v66 : Ref sig .tc := ⟨.hbm, 86, rfl⟩
abbrev main_cst_3 : Ref sig .tc := ⟨.hbm, 87, rfl⟩
abbrev main_v67 : Ref sig .tc := ⟨.hbm, 88, rfl⟩
abbrev main_cst_4 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_5 : Ref sig .tc := ⟨.hbm, 99, rfl⟩
abbrev main_v77 : Ref sig .tc := ⟨.hbm, 100, rfl⟩
abbrev main_cst_6 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_7 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_8 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_v85 : Ref sig .tc := ⟨.hbm, 114, rfl⟩
abbrev main_v86 : Ref sig .tc := ⟨.hbm, 115, rfl⟩
abbrev main_cst_9 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_10 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x32768x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Clamp.lean ====
/-
The tile a window asks for: the grid's tile number, held below the number of tiles a length needs.

For a length `n`, tile `t` and tiles of 1024 positions the index maps compute `min t (max ((n + 1023) / 1024 - 1) 0)` in
32-bit words.  This module reads that word as a number.
-/
module

public import Idealize.ShloMosaic.Lib.Pipeline.ValueKit
public import Idealize.ShloMosaic.Lib.WordArith
public import Idealize.ShloMosaic.Lib.Routing.Words

@[expose] public section

namespace Cert.Clamp

open Idealize.ShloMosaic

/-- The number of tiles a length needs, less one. -/
def lastTile (n : BitVec 32) : BitVec 32 :=
  Scalar.subi (Scalar.divsi (Scalar.addi n 1023#32) 1024#32) 1#32

/-- The tile asked for, of a length and a tile number. -/
def tile (n : BitVec 32) (t : ℕ) : ℕ :=
  (Scalar.minsi (BitVec.ofNat 32 t) (Scalar.maxsi (lastTile n) 0#32)).toNat

/-- A word below `2 ^ 31` read as a signed number. -/
theorem toInt_ofNat_small (t : ℕ) (h : t < 2 ^ 31) : (BitVec.ofNat 32 t).toInt = t := by
  rw [BitVec.toInt_eq_toNat_cond, BitVec.toNat_ofNat, Nat.mod_eq_of_lt (by omega)]
  rw [if_pos (by omega)]

/-- A tile number held below anything not negative stays at most the tile number. -/
theorem tile_le (n : BitVec 32) (t : ℕ) (h : t < 2 ^ 31) : tile n t ≤ t := by
  unfold tile
  generalize lastTile n = x
  have ht := toInt_ofNat_small t h
  have hn : (BitVec.ofNat 32 t).toNat = t := by rw [BitVec.toNat_ofNat, Nat.mod_eq_of_lt (by omega)]
  unfold Scalar.minsi IntOp.minsi
  split
  · exact hn.le
  · rename_i hlt
    simp only [BitVec.slt, ht, decide_eq_true_eq, not_lt] at hlt
    generalize hy : Scalar.maxsi x 0#32 = y at hlt
    have h0 : 0 ≤ y.toInt := by
      subst hy
      unfold Scalar.maxsi IntOp.maxsi
      split
      · rename_i hx
        simp only [BitVec.slt, BitVec.toInt_zero, decide_eq_true_eq] at hx
        exact hx.le
      · simp
    rw [BitVec.toInt_eq_toNat_cond] at hlt h0
    split at hlt <;> omega

/-- A tile that starts before the length is not held back, for a length the rounding up does not overflow. -/
theorem tile_eq (n : BitVec 32) (t : ℕ) (h : t < 32) (hn : n.sle 2147482624#32 = true)
    (hlt : (BitVec.ofNat 32 t * 1024#32).slt n = true) : tile n t = t := by
  suffices hw : Scalar.minsi (BitVec.ofNat 32 t) (Scalar.maxsi (lastTile n) 0#32) = BitVec.ofNat 32 t by
    rw [tile, hw, BitVec.toNat_ofNat, Nat.mod_eq_of_lt (by omega)]
  unfold lastTile
  have hm : BitVec.ofNat 32 t * 1024#32 = BitVec.ofNat 32 (t * 1024) := by
    apply BitVec.eq_of_toNat_eq; simp [BitVec.toNat_mul, BitVec.toNat_ofNat, Nat.mul_mod]
  rw [hm] at hlt
  simp only [BitVec.slt, BitVec.sle, decide_eq_true_eq] at hlt hn
  rw [toInt_ofNat_small _ (by omega)] at hlt
  rw [show (2147482624#32).toInt = 2147482624 from rfl] at hn
  obtain ⟨k, hk, rfl⟩ : ∃ k : ℕ, k ≤ 2147482624 ∧ n = BitVec.ofNat 32 k := by
    refine ⟨n.toNat, ?_, (BitVec.ofNat_toNat _ _).symm ▸ by simp⟩
    rw [BitVec.toInt_eq_toNat_cond] at hlt hn
    split at hn <;> omega
  rw [toInt_ofNat_small k (by omega)] at hlt
  have ha : Scalar.addi (BitVec.ofNat 32 k) 1023#32 = BitVec.ofNat 32 (k + 1023) := by
    show BitVec.ofNat 32 k + BitVec.ofNat 32 1023 = _
    rw [← BitVec.ofNat_add]
  have hd : Scalar.divsi (BitVec.ofNat 32 (k + 1023)) 1024#32 = BitVec.ofNat 32 ((k + 1023) / 1024) :=
    Routing.divsi_word .scalar (a := k + 1023) (b := 1024) (by omega) (by omega) (by omega)
  have hs : Scalar.subi (BitVec.ofNat 32 ((k + 1023) / 1024)) 1#32 = BitVec.ofNat 32 ((k + 1023) / 1024 - 1) := by
    apply BitVec.eq_of_toNat_eq
    show (BitVec.ofNat 32 ((k + 1023) / 1024) - 1#32).toNat = _
    simp only [BitVec.toNat_sub, BitVec.toNat_ofNat]
    omega
  rw [ha, hd, hs]
  have hx : Scalar.maxsi (BitVec.ofNat 32 ((k + 1023) / 1024 - 1)) 0#32 = BitVec.ofNat 32 ((k + 1023) / 1024 - 1) := by
    unfold Scalar.maxsi IntOp.maxsi
    split
    · rfl
    · rename_i hz
      simp only [BitVec.slt, BitVec.toInt_zero, decide_eq_true_eq, not_lt] at hz
      rw [toInt_ofNat_small _ (by omega)] at hz
      rw [show (k + 1023) / 1024 - 1 = 0 by omega]
  rw [hx]
  unfold Scalar.minsi IntOp.minsi
  split
  · rfl
  · rename_i hz
    simp only [BitVec.slt, decide_eq_true_eq, not_lt] at hz
    rw [toInt_ofNat_small _ (by omega), toInt_ofNat_small _ (by omega)] at hz
    congr 1
    omega

end Cert.Clamp

end
-- ==== Proof.Table.lean ====
/-
The windows the lengths choose lie inside their arrays, whatever the lengths are.

The tile number asked for is at most the grid's tile number (`Cert.Clamp.tile_le`), so the three windows whose index maps read
the lengths stay inside the cache.  Stated for the kernel as it runs and for the kernel over the extended reals.
-/
module

public import proofs.«01_k».proof.Proof.Clamp
public import proofs.«01_k».proof.Proof.Gen.Kernel.Frame
public import proofs.«01_k».proof.Proof.Gen.KernelIdeal.Frame
public import Idealize.ShloMosaic.Lib.Affine

@[expose] public section

set_option maxRecDepth 16384

namespace Cert.Table

open Idealize.ShloMosaic Idealize.SL.Sem

/-- The batch's block exists: the batch number as a word is below 8. -/
theorem batch_lt (b : Fin 8) : (BitVec.ofNat 32 b.val).toNat + 1 ≤ 8 := by
  rw [BitVec.toNat_ofNat, Nat.mod_eq_of_lt (by omega)]; omega

/-- A block lies inside an array of three axes when it does along each. -/
theorem inside3 {x y z p q r u v w : ℕ} (h0 : (x + 1) * p ≤ u) (h1 : (y + 1) * q ≤ v) (h2 : (z + 1) * r ≤ w) :
    ∀ a : Fin 3, ((![x, y, z] : Fin 3 → ℕ) a + 1) * (![p, q, r] : Fin 3 → ℕ) a ≤ (![u, v, w] : Fin 3 → ℕ) a
  | 0 => h0
  | 1 => h1
  | 2 => h2

/-- Along the batch axis a block of one batch lies inside the 8. -/
theorem inside_batch (b : Fin 8) : ((BitVec.ofNat 32 b.val).toNat + 1) * 1 ≤ 8 := by
  have := batch_lt b
  omega

/-- Along the positions a block of 1024 lies inside the 32768. -/
theorem inside_tile (n : BitVec 32) (t : Fin 32) : (Clamp.tile n t.val + 1) * 1024 ≤ 32768 := by
  have := Clamp.tile_le n t.val (by omega)
  omega

section

open Cert.Kernel.Gen Cert.Kernel

variable {F : FTy → Type} [FloatOps F] (pf : pre0.Contents (Elt F)) (i : grid0.Coords)

/-- The length of the point's batch, as the index maps read it. -/
def lengthKernel : BitVec 32 :=
  pf.at 0 (Rect.unit (s := S8) ![(Scalar.indexCast (BitVec.ofNat 32 (i 0).val)).toNat] S1.size (k0_off1_inb i)) numel1_S1

/-- The codes' window reads its batch's tile. -/
theorem mapKernel_2 : cc0_transform_2 k0_off1_inb numel1_S1 pf i =
    ![(BitVec.ofNat 32 (i 0).val).toNat, Clamp.tile (lengthKernel pf i) (i 1).val, 0] := by
  unfold cc0_transform_2 Clamp.tile Clamp.lastTile lengthKernel
  rfl

/-- The scales' window reads its batch's tile. -/
theorem mapKernel_3 : cc0_transform_3 k0_off1_inb numel1_S1 pf i =
    ![(BitVec.ofNat 32 (i 0).val).toNat, 0, Clamp.tile (lengthKernel pf i) (i 1).val] := by
  unfold cc0_transform_3 Clamp.tile Clamp.lastTile lengthKernel
  rfl

/-- The rotary keys' window reads its batch's tile. -/
theorem mapKernel_4 : cc0_transform_4 k0_off1_inb numel1_S1 pf i =
    ![(BitVec.ofNat 32 (i 0).val).toNat, 0, Clamp.tile (lengthKernel pf i) (i 1).val] := by
  unfold cc0_transform_4 Clamp.tile Clamp.lastTile lengthKernel
  rfl

/-- The kernel's windows lie inside their arrays. -/
theorem okKernel : ok0 pf := by
  refine ⟨fun i => ⟨?_, .inr (Affine.block_words_dvd (of_decide_eq_true rfl) (by decide))⟩,
    fun i => ⟨?_, .inl rfl⟩, fun i => ⟨?_, .inr (Affine.block_words_dvd (of_decide_eq_true rfl) (by decide))⟩⟩
  · rw [mapKernel_2]
    exact inside3 (inside_batch (i 0)) (inside_tile _ (i 1)) (by decide)
  · rw [mapKernel_3]
    exact inside3 (inside_batch (i 0)) (by decide) (inside_tile _ (i 1))
  · rw [mapKernel_4]
    exact inside3 (inside_batch (i 0)) (by decide) (inside_tile _ (i 1))

end

section

open Cert.KernelIdeal.Gen Cert.KernelIdeal

variable {F : FTy → Type} [FloatOps F] [Named F] (pf : pre0.Contents (Elt F)) (i : grid0.Coords)

/-- The length of the point's batch, as the index maps read it. -/
def lengthIdeal : BitVec 32 :=
  pf.at 0 (Rect.unit (s := S8) ![(Scalar.indexCast (BitVec.ofNat 32 (i 0).val)).toNat] S1.size (k0_off1_inb i)) numel1_S1

/-- The codes' window reads its batch's tile. -/
theorem mapIdeal_2 : cc0_transform_2 k0_off1_inb numel1_S1 pf i =
    ![(BitVec.ofNat 32 (i 0).val).toNat, Clamp.tile (lengthIdeal pf i) (i 1).val, 0] := by
  unfold cc0_transform_2 Clamp.tile Clamp.lastTile lengthIdeal
  rfl

/-- The scales' window reads its batch's tile. -/
theorem mapIdeal_3 : cc0_transform_3 k0_off1_inb numel1_S1 pf i =
    ![(BitVec.ofNat 32 (i 0).val).toNat, 0, Clamp.tile (lengthIdeal pf i) (i 1).val] := by
  unfold cc0_transform_3 Clamp.tile Clamp.lastTile lengthIdeal
  rfl

/-- The rotary keys' window reads its batch's tile. -/
theorem mapIdeal_4 : cc0_transform_4 k0_off1_inb numel1_S1 pf i =
    ![(BitVec.ofNat 32 (i 0).val).toNat, 0, Clamp.tile (lengthIdeal pf i) (i 1).val] := by
  unfold cc0_transform_4 Clamp.tile Clamp.lastTile lengthIdeal
  rfl

/-- Over the extended reals, the kernel's windows lie inside their arrays. -/
theorem okIdeal : ok0 pf := by
  refine ⟨fun i => ⟨?_, .inr (Affine.block_words_dvd (of_decide_eq_true rfl) (by decide))⟩,
    fun i => ⟨?_, .inl rfl⟩, fun i => ⟨?_, .inr (Affine.block_words_dvd (of_decide_eq_true rfl) (by decide))⟩⟩
  · rw [mapIdeal_2]
    exact inside3 (inside_batch (i 0)) (inside_tile _ (i 1)) (by decide)
  · rw [mapIdeal_3]
    exact inside3 (inside_batch (i 0)) (by decide) (inside_tile _ (i 1))
  · rw [mapIdeal_4]
    exact inside3 (inside_batch (i 0)) (by decide) (inside_tile _ (i 1))

end

end Cert.Table

end
-- ==== Proof.Step.lean ====
/-
What one grid point of the kernel computes, as functions of the blocks it is handed.

A point of the grid is a batch and a tile of 1024 cached positions.  The first tile of a batch starts the three running arrays
(largest score, sum of weights, weighted sum of values) from the new tokens; a tile that holds positions before the length
takes one step; the last tile divides.  The functions here only name the arrays that the kernel's stores write; what their
elements are is in `StepInit`, `StepUpdate` and `StepOut`.
-/
module

public import proofs.«01_k».proof.Proof.Gen.KernelIdeal.Frame
public import Idealize.ShloMosaic.Lib.Pipeline.ReadBack
public import Idealize.ShloMosaic.Lib.Pipeline.ValueKit

@[expose] public section

set_option maxRecDepth 16384

noncomputable section

namespace Cert.Step

open Idealize.ShloMosaic Idealize.ShloMosaic.TcCoe Idealize.SL.Sem Cert.KernelIdeal Cert.KernelIdeal.Gen

section Blocks

variable (t len : BitVec 32) (x0 : Vec Ideal S1x128x512 .bf16) (x1 : Vec Ideal S1x128x64 .bf16)
  (x2 : Vec Ideal S1x1024x512 .fp8e4m3) (x3 : Vec Ideal S1x4x1024 .f32) (x4 : Vec Ideal S1x64x1024 .bf16)
  (x5 : Vec Ideal S1x4x512 .fp8e4m3) (x6 : Vec Ideal S1x4x4 .f32) (x7 : Vec Ideal S1x4x64 .bf16)
  (top sum : Vec Ideal S128x128 .f32) (acc : Vec Ideal S128x512 .f32)

/-! ### The four column blocks of 128 of each input -/

/-- The first quarter of the columns of the queries. -/
abbrev q0 : Vec Ideal S1x128x128 .bf16 := View.ld x0 (Rect.unit ![0, 0, 0] ![1, 128, 128] inb_S1x128x512_S1x128x128_0_0_0)
/-- The second quarter of the columns of the queries. -/
abbrev q1 : Vec Ideal S1x128x128 .bf16 := View.ld x0 (Rect.unit ![0, 0, 128] ![1, 128, 128] inb_S1x128x512_S1x128x128_0_0_128)
/-- The third quarter of the columns of the queries. -/
abbrev q2 : Vec Ideal S1x128x128 .bf16 := View.ld x0 (Rect.unit ![0, 0, 256] ![1, 128, 128] inb_S1x128x512_S1x128x128_0_0_256)
/-- The fourth quarter of the columns of the queries. -/
abbrev q3 : Vec Ideal S1x128x128 .bf16 := View.ld x0 (Rect.unit ![0, 0, 384] ![1, 128, 128] inb_S1x128x512_S1x128x128_0_0_384)
/-- The first quarter of the columns of the codes. -/
abbrev codes0 : Vec Ideal S1x1024x128 .fp8e4m3 :=
  View.ld x2 (Rect.unit ![0, 0, 0] ![1, 1024, 128] inb_S1x1024x512_S1x1024x128_0_0_0)
/-- The second quarter of the columns of the codes. -/
abbrev codes1 : Vec Ideal S1x1024x128 .fp8e4m3 :=
  View.ld x2 (Rect.unit ![0, 0, 128] ![1, 1024, 128] inb_S1x1024x512_S1x1024x128_0_0_128)
/-- The third quarter of the columns of the codes. -/
abbrev codes2 : Vec Ideal S1x1024x128 .fp8e4m3 :=
  View.ld x2 (Rect.unit ![0, 0, 256] ![1, 1024, 128] inb_S1x1024x512_S1x1024x128_0_0_256)
/-- The fourth quarter of the columns of the codes. -/
abbrev codes3 : Vec Ideal S1x1024x128 .fp8e4m3 :=
  View.ld x2 (Rect.unit ![0, 0, 384] ![1, 1024, 128] inb_S1x1024x512_S1x1024x128_0_0_384)
/-- The first row of the scales, that of the first quarter of the columns. -/
abbrev scale0 : Vec Ideal S1x1x1024 .f32 := View.ld x3 (Rect.unit ![0, 0, 0] ![1, 1, 1024] inb_S1x4x1024_S1x1x1024_0_0_0)
/-- The second row of the scales, that of the second quarter of the columns. -/
abbrev scale1 : Vec Ideal S1x1x1024 .f32 := View.ld x3 (Rect.unit ![0, 1, 0] ![1, 1, 1024] inb_S1x4x1024_S1x1x1024_0_1_0)
/-- The third row of the scales, that of the third quarter of the columns. -/
abbrev scale2 : Vec Ideal S1x1x1024 .f32 := View.ld x3 (Rect.unit ![0, 2, 0] ![1, 1, 1024] inb_S1x4x1024_S1x1x1024_0_2_0)
/-- The fourth row of the scales, that of the fourth quarter of the columns. -/
abbrev scale3 : Vec Ideal S1x1x1024 .f32 := View.ld x3 (Rect.unit ![0, 3, 0] ![1, 1, 1024] inb_S1x4x1024_S1x1x1024_0_3_0)
/-- The first quarter of the columns of the weighted sum. -/
abbrev acc0 : Vec Ideal S128x128 .f32 := View.ld acc (Rect.unit ![0, 0] ![128, 128] inb_S128x512_S128x128_0_0)
/-- The second quarter of the columns of the weighted sum. -/
abbrev acc1 : Vec Ideal S128x128 .f32 := View.ld acc (Rect.unit ![0, 128] ![128, 128] inb_S128x512_S128x128_0_128)
/-- The third quarter of the columns of the weighted sum. -/
abbrev acc2 : Vec Ideal S128x128 .f32 := View.ld acc (Rect.unit ![0, 256] ![128, 128] inb_S128x512_S128x128_0_256)
/-- The fourth quarter of the columns of the weighted sum. -/
abbrev acc3 : Vec Ideal S128x128 .f32 := View.ld acc (Rect.unit ![0, 384] ![128, 128] inb_S128x512_S128x128_0_384)

/-! ### The start, from the new tokens -/

/-- The new tokens' scores before the causal mask. -/
def newRaw : FVec Ideal S128x4 .f32 := k0_pay16 x0 x5 x6 x1 x7

/-- The largest score after the new tokens. -/
def initTop : Vec Ideal S128x128 .f32 :=
  k0_pay4 (newRaw x0 x1 x5 x6 x7) (iota .tc S128x4 32 [0] iota_S128x4_d0_w32) 32#32 k0_pay17 k0_pay18 1#32

/-- The sum of weights after the new tokens. -/
def initSum : Vec Ideal S128x128 .f32 :=
  k0_pay5 (newRaw x0 x1 x5 x6 x7) (iota .tc S128x4 32 [0] iota_S128x4_d0_w32) 32#32 k0_pay17 k0_pay18 1#32

/-- The weighted sum of values after the new tokens. -/
def initAcc : Vec Ideal S128x512 .f32 :=
  k0_pay6 (k0_pay15 x5 x6) (newRaw x0 x1 x5 x6 x7) (iota .tc S128x4 32 [0] iota_S128x4_d0_w32) 32#32 k0_pay17 k0_pay18 1#32

/-! ### One step, over a tile of the cache -/

/-- The rotary part of the tile's scores and the first two column blocks. -/
def partScore : FVec Ideal S128x1024 .f32 :=
  k0_pay19 x1 x4 (q0 x0) (codes0 x2) (scale0 x3) (q1 x0) (codes1 x2) (scale1 x3)

/-- The tile's scores, masked by the length. -/
def tileScore : FVec Ideal S128x1024 .f32 :=
  k0_pay21 t len (partScore x0 x1 x2 x3 x4) (k0_pay20 (q2 x0)) (codes2 x2) (scale2 x3) (q3 x0) (codes3 x2) (scale3 x3)

/-- The largest score after the tile. -/
def nextTop : FVec Ideal S128x128 .f32 :=
  k0_pay22 t len (partScore x0 x1 x2 x3 x4) (k0_pay20 (q2 x0)) (codes2 x2) (scale2 x3) (q3 x0) (codes3 x2) (scale3 x3) top

/-- The factor the old sums are multiplied by. -/
def rescale : FVec Ideal S128x128 .f32 :=
  k0_pay23 t len (partScore x0 x1 x2 x3 x4) (k0_pay20 (q2 x0)) (codes2 x2) (scale2 x3) (q3 x0) (codes3 x2) (scale3 x3) top

/-- The tile's weights. -/
def weights : FVec Ideal S128x1024 .f32 :=
  k0_pay24 t len (partScore x0 x1 x2 x3 x4) (k0_pay20 (q2 x0)) (codes2 x2) (scale2 x3) (q3 x0) (codes3 x2) (scale3 x3) top

/-- The largest score, as stored. -/
def stepTop : Vec Ideal S128x128 .f32 := k0_pay26 (nextTop t len x0 x1 x2 x3 x4 top)

/-- The sum of weights after the tile. -/
def stepSum : Vec Ideal S128x128 .f32 :=
  k0_pay25 (rescale t len x0 x1 x2 x3 x4 top) (weights t len x0 x1 x2 x3 x4 top) sum

/-- The weighted sum of values after the tile, columns 0 to 127. -/
def stepAcc0 : Vec Ideal S128x128 .f32 :=
  k0_pay29 (rescale t len x0 x1 x2 x3 x4 top) (weights t len x0 x1 x2 x3 x4 top) x3 (codes0 x2) (acc0 acc)

/-- Columns 128 to 255. -/
def stepAcc1 : Vec Ideal S128x128 .f32 :=
  k0_pay7 (rescale t len x0 x1 x2 x3 x4 top) (k0_pay27 (weights t len x0 x1 x2 x3 x4 top)) (k0_pay30 x3 (codes1 x2)) (acc1 acc)

/-- Columns 256 to 383. -/
def stepAcc2 : Vec Ideal S128x128 .f32 :=
  k0_pay8 (rescale t len x0 x1 x2 x3 x4 top) (k0_pay27 (weights t len x0 x1 x2 x3 x4 top)) (k0_pay28 x3) (codes2 x2) (acc2 acc)

/-- Columns 384 to 511. -/
def stepAcc3 : Vec Ideal S128x128 .f32 :=
  k0_pay9 (rescale t len x0 x1 x2 x3 x4 top) (k0_pay27 (weights t len x0 x1 x2 x3 x4 top)) (k0_pay28 x3) (codes3 x2) (acc3 acc)

/-- Four blocks of 128 columns side by side. -/
def sideBySide (a0 a1 a2 a3 : Vec Ideal S128x128 .f32) : Vec Ideal S128x512 .f32 :=
  View.canon (Val := Elt Ideal) (e := .f32)
    [⟨Rect.unit ![0, 384] ![128, 128] inb_S128x512_S128x128_0_384, a3⟩,
     ⟨Rect.unit ![0, 256] ![128, 128] inb_S128x512_S128x128_0_256, a2⟩,
     ⟨Rect.unit ![0, 128] ![128, 128] inb_S128x512_S128x128_0_128, a1⟩,
     ⟨Rect.unit ![0, 0] ![128, 128] inb_S128x512_S128x128_0_0, a0⟩]

/-- The weighted sum of values after the tile. -/
def stepAcc : Vec Ideal S128x512 .f32 :=
  sideBySide (stepAcc0 t len x0 x1 x2 x3 x4 top acc) (stepAcc1 t len x0 x1 x2 x3 x4 top acc)
    (stepAcc2 t len x0 x1 x2 x3 x4 top acc) (stepAcc3 t len x0 x1 x2 x3 x4 top acc)

/-! ### The result -/

/-- The block of the result: four column blocks of the weighted sum, each times the reciprocal of the sum of weights. -/
def result (sum a0 a1 a2 a3 : Vec Ideal S128x128 .f32) : Vec Ideal S1x128x512 .bf16 :=
  View.canon (Val := Elt Ideal) (e := .bf16)
    [⟨Rect.unit ![0, 0, 384] ![1, 128, 128] inb_S1x128x512_S1x128x128_0_0_384, k0_pay14 sum a3⟩,
     ⟨Rect.unit ![0, 0, 256] ![1, 128, 128] inb_S1x128x512_S1x128x128_0_0_256, k0_pay13 sum a2⟩,
     ⟨Rect.unit ![0, 0, 128] ![1, 128, 128] inb_S1x128x512_S1x128x128_0_0_128, k0_pay12 sum a1⟩,
     ⟨Rect.unit ![0, 0, 0] ![1, 128, 128] inb_S1x128x512_S1x128x128_0_0_0, k0_pay11 sum a0⟩]

end Blocks

/-- Where a list of stores covers an element, what was stored before them does not matter. -/
theorem canon_append {S : Shape} {e : EltTy} (R : List (View.Piece (Elt Ideal) S e)) (y : S.Idx) :
    ∀ L : List (View.Piece (Elt Ideal) S e), (∃ p ∈ L, y ∈ p.1.set) → View.canon (L ++ R) y = View.canon L y
  | [], h => by obtain ⟨p, hp, _⟩ := h; simp at hp
  | p :: L, h => by
    by_cases hm : y ∈ p.1.set
    · obtain ⟨x, rfl⟩ := p.1.exists_idx_of_mem hm
      rw [show p.1.idx x = p.1.emb x from rfl, List.cons_append]
      exact (View.canon_cons_emb p.1 p.2 (L ++ R) x).trans (View.canon_cons_emb p.1 p.2 L x).symm
    · rw [List.cons_append, View.canon_cons_of_not_mem _ _ hm, View.canon_cons_of_not_mem _ _ hm]
      refine canon_append R y L ?_
      obtain ⟨q, hq, hy⟩ := h
      rcases List.mem_cons.mp hq with rfl | hq
      · exact absurd hy hm
      · exact ⟨q, hq, hy⟩

/-- Four stores that cover an array hide one made before them. -/
theorem canon_four {S : Shape} {e : EltTy} (p3 p2 p1 p0 q : View.Piece (Elt Ideal) S e)
    (hc : ∀ y, ∃ p ∈ [p3, p2, p1, p0], y ∈ p.1.set) :
    View.canon [p3, p2, p1, p0, q] = View.canon [p3, p2, p1, p0] :=
  funext fun y => canon_append [q] y [p3, p2, p1, p0] (hc y)

/-- The length of the point's batch, as the body reads it. -/
abbrev lengthAt {c : Dev nD} (i : grid0.Coords) (xt : TbBuf0 (F := Ideal) c tbM0_0) : BitVec 32 :=
  tbM0_0.view.readAt (Elt Ideal) (Rect.unit (s := S8) (k0_off1 i) S1.size (k0_off1_inb i)).toLoadRect xt
    (Shape.Idx.first (numel1_S1.symm ▸ Nat.one_pos))

section Cases

variable (c : Dev nD) (i : grid0.Coords)
  (arg3 : Memref sig .tc .vmem S1x128x512 .bf16) (harg3 : arg3.IsWhole) (arg4 : Memref sig .tc .vmem S1x128x64 .bf16) (harg4 : arg4.IsWhole)
  (arg5 : Memref sig .tc .vmem S1x1024x512 .fp8e4m3) (harg5 : arg5.IsWhole) (arg6 : Memref sig .tc .vmem S1x4x1024 .f32) (harg6 : arg6.IsWhole)
  (arg7 : Memref sig .tc .vmem S1x64x1024 .bf16) (harg7 : arg7.IsWhole) (arg8 : Memref sig .tc .vmem S1x4x512 .fp8e4m3) (harg8 : arg8.IsWhole)
  (arg9 : Memref sig .tc .vmem S1x4x4 .f32) (harg9 : arg9.IsWhole) (arg10 : Memref sig .tc .vmem S1x4x64 .bf16) (harg10 : arg10.IsWhole)
  (arg11 : Memref sig .tc .vmem S1x128x512 .bf16) (harg11 : arg11.IsWhole) (arg12 : Memref sig .tc .vmem S128x128 .f32) (harg12 : arg12.IsWhole)
  (arg13 : Memref sig .tc .vmem S128x128 .f32) (harg13 : arg13.IsWhole) (arg14 : Memref sig .tc .vmem S128x512 .f32) (harg14 : arg14.IsWhole)
  (x0 : Vec Ideal S1x128x512 .bf16) (x1 : Vec Ideal S1x128x64 .bf16) (x2 : Vec Ideal S1x1024x512 .fp8e4m3) (x3 : Vec Ideal S1x4x1024 .f32)
  (x4 : Vec Ideal S1x64x1024 .bf16) (x5 : Vec Ideal S1x4x512 .fp8e4m3) (x6 : Vec Ideal S1x4x4 .f32) (x7 : Vec Ideal S1x4x64 .bf16)
  (xt : TbBuf0 (F := Ideal) c tbM0_0) (top sum : Vec Ideal S128x128 .f32) (acc : Vec Ideal S128x512 .f32)

/-- In a first tile with positions before the length: the largest score. -/
theorem sout_A_0 (h0 : cond0_0 i) (h2 : ¬ cond0_2 i) (h1 : cond0_1 i (lengthAt i xt)) :
    sout0_A_0 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt h1
      = stepTop (BitVec.ofNat 32 (i 1).val) (lengthAt i xt) x0 x1 x2 x3 x4 (initTop x0 x1 x5 x6 x7) := by
  frame_open
  try simp (disch := decide) only [↓ View.readCov_skip, ↓ View.readCov_cons_toLoadRect, ↓ View.readCov_fill]
  frame_out
  try simp only [read_unread_whole]
  rfl

/-- In a first tile with positions before the length: the sum of weights. -/
theorem sout_A_1 (h0 : cond0_0 i) (h2 : ¬ cond0_2 i) (h1 : cond0_1 i (lengthAt i xt)) :
    sout0_A_1 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt h1
      = stepSum (BitVec.ofNat 32 (i 1).val) (lengthAt i xt) x0 x1 x2 x3 x4 (initTop x0 x1 x5 x6 x7) (initSum x0 x1 x5 x6 x7) := by
  frame_open
  try simp (disch := decide) only [↓ View.readCov_skip, ↓ View.readCov_cons_toLoadRect, ↓ View.readCov_fill]
  frame_out
  try simp only [read_unread_whole]
  rfl

/-- In a first tile with positions before the length: the weighted sum. -/
theorem sout_A_2 (h0 : cond0_0 i) (h2 : ¬ cond0_2 i) (h1 : cond0_1 i (lengthAt i xt)) :
    sout0_A_2 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt h1
      = stepAcc (BitVec.ofNat 32 (i 1).val) (lengthAt i xt) x0 x1 x2 x3 x4 (initTop x0 x1 x5 x6 x7) (initAcc x0 x1 x5 x6 x7) := by
  frame_open
  try simp (disch := decide) only [↓ View.readCov_skip, ↓ View.readCov_cons_toLoadRect, ↓ View.readCov_fill]
  frame_out
  try simp only [read_unread_whole]
  refine (canon_four _ _ _ _ _ ?_).trans rfl
  exact View.cover_of_tiledL _ S128x128.size (by sl_kernel_rfl)

/-- In a middle tile with positions before the length: the largest score. -/
theorem sout_C_0 (h0 : ¬ cond0_0 i) (h2 : ¬ cond0_2 i) (h1 : cond0_1 i (lengthAt i xt)) :
    sout0_C_0 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = stepTop (BitVec.ofNat 32 (i 1).val) (lengthAt i xt) x0 x1 x2 x3 x4 top := by
  frame_open
  try simp (disch := decide) only [↓ View.readCov_skip, ↓ View.readCov_cons_toLoadRect, ↓ View.readCov_fill]
  frame_out
  try simp only [read_unread_whole]
  rfl

/-- In a middle tile with positions before the length: the sum of weights. -/
theorem sout_C_1 (h0 : ¬ cond0_0 i) (h2 : ¬ cond0_2 i) (h1 : cond0_1 i (lengthAt i xt)) :
    sout0_C_1 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = stepSum (BitVec.ofNat 32 (i 1).val) (lengthAt i xt) x0 x1 x2 x3 x4 top sum := by
  frame_open
  try simp (disch := decide) only [↓ View.readCov_skip, ↓ View.readCov_cons_toLoadRect, ↓ View.readCov_fill]
  frame_out
  try simp only [read_unread_whole]
  rfl

/-- In a middle tile with positions before the length: the weighted sum. -/
theorem sout_C_2 (h0 : ¬ cond0_0 i) (h2 : ¬ cond0_2 i) (h1 : cond0_1 i (lengthAt i xt)) :
    sout0_C_2 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = stepAcc (BitVec.ofNat 32 (i 1).val) (lengthAt i xt) x0 x1 x2 x3 x4 top acc := by
  frame_open
  try simp (disch := decide) only [↓ View.readCov_skip, ↓ View.readCov_cons_toLoadRect, ↓ View.readCov_fill]
  frame_out
  try simp only [read_unread_whole]
  rfl

/-- In a last tile with positions before the length: the largest score. -/
theorem sout_E_0 (h0 : ¬ cond0_0 i) (h2 : cond0_2 i) (h1 : cond0_1 i (lengthAt i xt)) :
    sout0_E_0 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = stepTop (BitVec.ofNat 32 (i 1).val) (lengthAt i xt) x0 x1 x2 x3 x4 top := by
  frame_open
  try simp (disch := decide) only [↓ View.readCov_skip, ↓ View.readCov_cons_toLoadRect, ↓ View.readCov_fill]
  frame_out
  try simp only [read_unread_whole]
  rfl

/-- In a last tile with positions before the length: the sum of weights. -/
theorem sout_E_1 (h0 : ¬ cond0_0 i) (h2 : cond0_2 i) (h1 : cond0_1 i (lengthAt i xt)) :
    sout0_E_1 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = stepSum (BitVec.ofNat 32 (i 1).val) (lengthAt i xt) x0 x1 x2 x3 x4 top sum := by
  frame_open
  try simp (disch := decide) only [↓ View.readCov_skip, ↓ View.readCov_cons_toLoadRect, ↓ View.readCov_fill]
  frame_out
  try simp only [read_unread_whole]
  rfl

/-- In a last tile with positions before the length: the weighted sum. -/
theorem sout_E_2 (h0 : ¬ cond0_0 i) (h2 : cond0_2 i) (h1 : cond0_1 i (lengthAt i xt)) :
    sout0_E_2 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = stepAcc (BitVec.ofNat 32 (i 1).val) (lengthAt i xt) x0 x1 x2 x3 x4 top acc := by
  frame_open
  try simp (disch := decide) only [↓ View.readCov_skip, ↓ View.readCov_cons_toLoadRect, ↓ View.readCov_fill]
  frame_out
  try simp only [read_unread_whole]
  rfl

/-- In a first tile past the length: the largest score. -/
theorem sout_B_0 (h0 : cond0_0 i) (h2 : ¬ cond0_2 i) (h1 : ¬ cond0_1 i (lengthAt i xt)) :
    sout0_B_0 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt h1
      = initTop x0 x1 x5 x6 x7 := by
  frame_open
  try simp (disch := decide) only [↓ View.readCov_skip, ↓ View.readCov_cons_toLoadRect, ↓ View.readCov_fill]
  frame_out
  try simp only [read_unread_whole]
  rfl

/-- In a first tile past the length: the sum of weights. -/
theorem sout_B_1 (h0 : cond0_0 i) (h2 : ¬ cond0_2 i) (h1 : ¬ cond0_1 i (lengthAt i xt)) :
    sout0_B_1 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt h1
      = initSum x0 x1 x5 x6 x7 := by
  frame_open
  try simp (disch := decide) only [↓ View.readCov_skip, ↓ View.readCov_cons_toLoadRect, ↓ View.readCov_fill]
  frame_out
  try simp only [read_unread_whole]
  rfl

/-- In a first tile past the length: the weighted sum. -/
theorem sout_B_2 (h0 : cond0_0 i) (h2 : ¬ cond0_2 i) (h1 : ¬ cond0_1 i (lengthAt i xt)) :
    sout0_B_2 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt h1
      = initAcc x0 x1 x5 x6 x7 := by
  frame_open
  try simp (disch := decide) only [↓ View.readCov_skip, ↓ View.readCov_cons_toLoadRect, ↓ View.readCov_fill]
  frame_out
  try simp only [read_unread_whole]
  rfl

/-- In a last tile with positions before the length: the result. -/
theorem out_E_8 (h0 : ¬ cond0_0 i) (h2 : cond0_2 i) (h1 : cond0_1 i (lengthAt i xt)) :
    out0_E_8 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = result (stepSum (BitVec.ofNat 32 (i 1).val) (lengthAt i xt) x0 x1 x2 x3 x4 top sum) (stepAcc0 (BitVec.ofNat 32 (i 1).val) (lengthAt i xt) x0 x1 x2 x3 x4 top acc)
          (stepAcc1 (BitVec.ofNat 32 (i 1).val) (lengthAt i xt) x0 x1 x2 x3 x4 top acc) (stepAcc2 (BitVec.ofNat 32 (i 1).val) (lengthAt i xt) x0 x1 x2 x3 x4 top acc)
          (stepAcc3 (BitVec.ofNat 32 (i 1).val) (lengthAt i xt) x0 x1 x2 x3 x4 top acc) := by
  frame_open
  try simp (disch := decide) only [↓ View.readCov_skip, ↓ View.readCov_cons_toLoadRect, ↓ View.readCov_fill]
  frame_out
  try simp only [read_unread_whole]
  rfl

/-- In a last tile past the length: the result. -/
theorem out_F_8 (h0 : ¬ cond0_0 i) (h2 : cond0_2 i) (h1 : ¬ cond0_1 i (lengthAt i xt)) :
    out0_F_8 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = result sum (acc0 acc) (acc1 acc) (acc2 acc) (acc3 acc) := by
  frame_open
  try simp (disch := decide) only [↓ View.readCov_skip, ↓ View.readCov_cons_toLoadRect, ↓ View.readCov_fill]
  frame_out
  try simp only [read_unread_whole]

/-- In a middle tile past the length the largest score is kept. -/
theorem sout_D_0 (h0 : ¬ cond0_0 i) (h2 : ¬ cond0_2 i) (h1 : ¬ cond0_1 i (lengthAt i xt)) :
    sout0_D_0 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = top := rfl

/-- In a middle tile past the length the sum of weights is kept. -/
theorem sout_D_1 (h0 : ¬ cond0_0 i) (h2 : ¬ cond0_2 i) (h1 : ¬ cond0_1 i (lengthAt i xt)) :
    sout0_D_1 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = sum := rfl

/-- In a middle tile past the length the weighted sum is kept. -/
theorem sout_D_2 (h0 : ¬ cond0_0 i) (h2 : ¬ cond0_2 i) (h1 : ¬ cond0_1 i (lengthAt i xt)) :
    sout0_D_2 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = acc := rfl

/-- In a last tile past the length the largest score is kept. -/
theorem sout_F_0 (h0 : ¬ cond0_0 i) (h2 : cond0_2 i) (h1 : ¬ cond0_1 i (lengthAt i xt)) :
    sout0_F_0 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = top := rfl

/-- In a last tile past the length the sum of weights is kept. -/
theorem sout_F_1 (h0 : ¬ cond0_0 i) (h2 : cond0_2 i) (h1 : ¬ cond0_1 i (lengthAt i xt)) :
    sout0_F_1 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = sum := rfl

/-- In a last tile past the length the weighted sum is kept. -/
theorem sout_F_2 (h0 : ¬ cond0_0 i) (h2 : cond0_2 i) (h1 : ¬ cond0_1 i (lengthAt i xt)) :
    sout0_F_2 c i arg3 harg3 arg4 harg4 arg5 harg5 arg6 harg6 arg7 harg7 arg8 harg8
      arg9 harg9 arg10 harg10 arg11 harg11 arg12 harg12 arg13 harg13 arg14 harg14 h0 h2 x0 x1 x2 x3 x4 x5 x6 x7 xt top sum acc h1
      = acc := rfl

end Cases

end Cert.Step

end

end
-- ==== Proof.StepCases.lean ====
/-
What one grid point of the kernel leaves, case by case: the four arrays of a point (the result's block, the largest score, the
sum of weights, the weighted sum) known to be those of a case are the arrays named in `Step`.
-/
module

public import proofs.«01_k».proof.Proof.Step

@[expose] public section

set_option maxRecDepth 16384

noncomputable section

namespace Cert.Step

open Idealize.ShloMosaic Idealize.ShloMosaic.TcCoe Idealize.SL.Sem Cert.KernelIdeal Cert.KernelIdeal.Gen

/-- The arrays of a point: the result's block, the largest score, the sum of weights, the weighted sum. -/
abbrev Arrays : Type :=
  Vec Ideal S1x128x512 .bf16 × Vec Ideal S128x128 .f32 × Vec Ideal S128x128 .f32 × Vec Ideal S128x512 .f32

variable {c : Dev nD} {i : grid0.Coords}
  {arg3 : Memref sig .tc .vmem S1x128x512 .bf16} {harg3 : arg3.IsWhole} {arg4 : Memref sig .tc .vmem S1x128x64 .bf16} {harg4 : arg4.IsWhole}
  {arg5 : Memref sig .tc .vmem S1x1024x512 .fp8e4m3} {harg5 : arg5.IsWhole} {arg6 : Memref sig .tc .vmem S1x4x1024 .f32} {harg6 : arg6.IsWhole}
  {arg7 : Memref sig .tc .vmem S1x64x1024 .bf16} {harg7 : arg7.IsWhole} {arg8 : Memref sig .tc .vmem S1x4x512 .fp8e4m3} {harg8 : arg8.IsWhole}
  {arg9 : Memref sig .tc .vmem S1x4x4 .f32} {harg9 : arg9.IsWhole} {arg10 : Memref sig .tc .vmem S1x4x64 .bf16} {harg10 : arg10.IsWhole}
  {arg11 : Memref sig .tc .vmem S1x128x512 .bf16} {harg11 : arg11.IsWhole} {arg12 : Memref sig .tc .vmem S128x128 .f32} {harg12 : arg12.IsWhole}
  {arg13 : Memref sig .tc .vmem S128x128 .f32} {harg13 : arg13.IsWhole} {arg14 : Memref sig .tc .vmem S128x512 .f32} {harg14 : arg14.IsWhole}
  {x0 : Vec Ideal S1x128x512 .bf16} {x1 : Vec Ideal S1x128x64 .bf16} {x2 : Vec Ideal S1x1024x512 .fp8e4m3} {x3 : Vec Ideal S1x4x1024 .f32}
  {x4 : Vec Ideal S1x64x1024 .bf16} {x5 : Vec Ideal S1x4x512 .fp8e4m3} {x6 : Vec Ideal S1x4x4 .f32} {x7 : Vec Ideal S1x4x64 .bf16}
  {xt : TbBuf0 (F := Ideal) c tbM0_0} {top sum : Vec Ideal S128x128 .f32} {acc : Vec Ideal S128x512 .f32}
  {o : Arrays}

/-- In a first tile with positions before the length. -/
theorem case_A {h0 : cond0_0 i} {h2 : ¬ cond0_2 i} {h1 : cond0_1 i (lengthAt i xt)}
    (e : o = (out0_A_8 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt h1,
      sout0_A_0 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt h1,
      sout0_A_1 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt h1,
      sout0_A_2 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt h1)) :
    o.2.1 = stepTop (BitVec.ofNat 32 (i 1).val) (lengthAt i xt) x0 x1 x2 x3 x4 (initTop x0 x1 x5 x6 x7)
      ∧ o.2.2.1 = stepSum (BitVec.ofNat 32 (i 1).val) (lengthAt i xt) x0 x1 x2 x3 x4 (initTop x0 x1 x5 x6 x7) (initSum x0 x1 x5 x6 x7)
      ∧ o.2.2.2 = stepAcc (BitVec.ofNat 32 (i 1).val) (lengthAt i xt) x0 x1 x2 x3 x4 (initTop x0 x1 x5 x6 x7) (initAcc x0 x1 x5 x6 x7) := by
  subst e
  dsimp only
  rw [sout_A_0, sout_A_1, sout_A_2]
  exact ⟨rfl, rfl, rfl⟩

/-- In a first tile past the length. -/
theorem case_B {h0 : cond0_0 i} {h2 : ¬ cond0_2 i} {h1 : ¬ cond0_1 i (lengthAt i xt)}
    (e : o = (out0_B_8 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt h1,
      sout0_B_0 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt h1,
      sout0_B_1 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt h1,
      sout0_B_2 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt h1)) :
    o.2.1 = initTop x0 x1 x5 x6 x7
      ∧ o.2.2.1 = initSum x0 x1 x5 x6 x7
      ∧ o.2.2.2 = initAcc x0 x1 x5 x6 x7 := by
  subst e
  dsimp only
  rw [sout_B_0, sout_B_1, sout_B_2]
  exact ⟨rfl, rfl, rfl⟩

/-- In a middle tile with positions before the length. -/
theorem case_C {h0 : ¬ cond0_0 i} {h2 : ¬ cond0_2 i} {h1 : cond0_1 i (lengthAt i xt)}
    (e : o = (out0_C_8 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_C_0 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_C_1 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_C_2 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1)) :
    o.2.1 = stepTop (BitVec.ofNat 32 (i 1).val) (lengthAt i xt) x0 x1 x2 x3 x4 top
      ∧ o.2.2.1 = stepSum (BitVec.ofNat 32 (i 1).val) (lengthAt i xt) x0 x1 x2 x3 x4 top sum
      ∧ o.2.2.2 = stepAcc (BitVec.ofNat 32 (i 1).val) (lengthAt i xt) x0 x1 x2 x3 x4 top acc := by
  subst e
  dsimp only
  rw [sout_C_0, sout_C_1, sout_C_2]
  exact ⟨rfl, rfl, rfl⟩

/-- In a middle tile past the length. -/
theorem case_D {h0 : ¬ cond0_0 i} {h2 : ¬ cond0_2 i} {h1 : ¬ cond0_1 i (lengthAt i xt)}
    (e : o = (out0_D_8 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_D_0 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_D_1 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_D_2 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1)) :
    o.2.1 = top
      ∧ o.2.2.1 = sum
      ∧ o.2.2.2 = acc := by
  subst e
  dsimp only
  rw [sout_D_0, sout_D_1, sout_D_2]
  exact ⟨rfl, rfl, rfl⟩

/-- In a last tile with positions before the length. -/
theorem case_E {h0 : ¬ cond0_0 i} {h2 : cond0_2 i} {h1 : cond0_1 i (lengthAt i xt)}
    (e : o = (out0_E_8 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_E_0 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_E_1 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_E_2 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1)) :
    o.2.1 = stepTop (BitVec.ofNat 32 (i 1).val) (lengthAt i xt) x0 x1 x2 x3 x4 top
      ∧ o.2.2.1 = stepSum (BitVec.ofNat 32 (i 1).val) (lengthAt i xt) x0 x1 x2 x3 x4 top sum
      ∧ o.2.2.2 = stepAcc (BitVec.ofNat 32 (i 1).val) (lengthAt i xt) x0 x1 x2 x3 x4 top acc
      ∧ o.1 = result (stepSum (BitVec.ofNat 32 (i 1).val) (lengthAt i xt) x0 x1 x2 x3 x4 top sum)
        (stepAcc0 (BitVec.ofNat 32 (i 1).val) (lengthAt i xt) x0 x1 x2 x3 x4 top acc) (stepAcc1 (BitVec.ofNat 32 (i 1).val) (lengthAt i xt) x0 x1 x2 x3 x4 top acc)
        (stepAcc2 (BitVec.ofNat 32 (i 1).val) (lengthAt i xt) x0 x1 x2 x3 x4 top acc) (stepAcc3 (BitVec.ofNat 32 (i 1).val) (lengthAt i xt) x0 x1 x2 x3 x4 top acc) := by
  subst e
  dsimp only
  rw [sout_E_0, sout_E_1, sout_E_2, out_E_8]
  exact ⟨rfl, rfl, rfl, rfl⟩

/-- In a last tile past the length. -/
theorem case_F {h0 : ¬ cond0_0 i} {h2 : cond0_2 i} {h1 : ¬ cond0_1 i (lengthAt i xt)}
    (e : o = (out0_F_8 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_F_0 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_F_1 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1,
      sout0_F_2 c i arg3 harg3 arg4 harg4 arg5 harg5 arg6 harg6 arg7 harg7 arg8 harg8
        arg9 harg9 arg10 harg10 arg11 harg11 arg12 harg12 arg13 harg13 arg14 harg14 h0 h2 x0 x1 x2 x3 x4 x5 x6 x7 xt top sum acc h1)) :
    o.2.1 = top
      ∧ o.2.2.1 = sum
      ∧ o.2.2.2 = acc
      ∧ o.1 = result sum (acc0 acc) (acc1 acc) (acc2 acc) (acc3 acc) := by
  subst e
  dsimp only
  rw [sout_F_0, sout_F_1, sout_F_2, out_F_8]
  exact ⟨rfl, rfl, rfl, rfl⟩

end Cert.Step

end

end
-- ==== Proof.Online.lean ====
/-
The online softmax over the extended reals.

A sequence of scores `σ 0, σ 1, …` and of values `v 0, v 1, …` is read from left to right.  After the first `n` of them
three numbers are kept: the largest score `top σ n`, the sum of the weights `wsum σ n` and the weighted sum of the
values `vsum σ v n`, both relative to that largest score.  This module states how the three numbers change when `k` more
positions are read, that a run of masked positions (score `⊥`) changes nothing, and that multiplying by the reciprocal of
the sum at the end is the same as normalising every weight first.  No finiteness is assumed anywhere.
-/
module

public import Idealize.ShloMosaic.Lib.Pipeline.ValueKit

@[expose] public section

noncomputable section

namespace Cert.Online

open Idealize.ShloMosaic

/-- The largest of the first `n` scores. -/
def top (σ : ℕ → EReal) (n : ℕ) : EReal := (Finset.range n).sup σ

/-- The weights of the first `n` positions, relative to their largest score, summed. -/
def wsum (σ : ℕ → EReal) (n : ℕ) : EReal := ∑ i ∈ Finset.range n, Ideal.exp (σ i - top σ n)

/-- The values of the first `n` positions, each times its weight, summed. -/
def vsum (σ v : ℕ → EReal) (n : ℕ) : EReal := ∑ i ∈ Finset.range n, Ideal.exp (σ i - top σ n) * v i

/-- The exponential of minus infinity is zero. -/
theorem exp_bot : Ideal.exp ⊥ = 0 := rfl

/-- The exponential of plus infinity is plus infinity. -/
theorem exp_top : Ideal.exp ⊤ = ⊤ := rfl

/-- The exponential of a real number is the real exponential. -/
theorem exp_coe (r : ℝ) : Ideal.exp (r : EReal) = ((Real.exp r : ℝ) : EReal) := rfl

/-- A weight is not negative. -/
theorem exp_nonneg (x : EReal) : 0 ≤ Ideal.exp x := by
  induction x with
  | bot => simp [exp_bot]
  | top => simp [exp_top]
  | coe r => rw [exp_coe]; exact_mod_cast (Real.exp_pos r).le

/-- A weight relative to something at least as large is finite. -/
theorem exp_sub_ne_top {x y : EReal} (h : x ≤ y) : Ideal.exp (x - y) ≠ ⊤ := by
  induction x with
  | bot => simp [exp_bot]
  | top => obtain rfl : y = ⊤ := top_le_iff.mp h; simp [exp_bot]
  | coe a =>
    induction y with
    | bot => simp at h
    | top => simp [exp_bot]
    | coe b => rw [← EReal.coe_sub, exp_coe]; exact EReal.coe_ne_top _

/-- Changing the reference score from `m` to a larger `m'` multiplies a weight by `exp (m - m')`. -/
theorem exp_rebase {s m m' : EReal} (h : s ≤ m) (h' : m ≤ m') :
    Ideal.exp (m - m') * Ideal.exp (s - m) = Ideal.exp (s - m') := by
  induction s with
  | bot => simp [exp_bot]
  | top =>
    obtain rfl : m = ⊤ := top_le_iff.mp h
    obtain rfl : m' = ⊤ := top_le_iff.mp h'
    simp [exp_bot]
  | coe a =>
    induction m with
    | bot => simp at h
    | top => obtain rfl : m' = ⊤ := top_le_iff.mp h'; simp [exp_bot]
    | coe b =>
      induction m' with
      | bot => simp at h'
      | top => simp [exp_bot]
      | coe d =>
        simp only [← EReal.coe_sub, exp_coe, ← EReal.coe_mul, ← Real.exp_add]
        congr 2; ring

/-- A finite factor that is not negative distributes over a sum, from the left. -/
theorem mul_sum {x : EReal} (h0 : 0 ≤ x) (h1 : x ≠ ⊤) (f : ℕ → EReal) (n : ℕ) :
    x * ∑ i ∈ Finset.range n, f i = ∑ i ∈ Finset.range n, x * f i := by
  induction n with
  | zero => simp
  | succ n ih => rw [Finset.sum_range_succ, Finset.sum_range_succ, EReal.left_distrib_of_nonneg_of_ne_top h0 h1, ih]

/-- No score is larger than the largest. -/
theorem le_top (σ : ℕ → EReal) {i n : ℕ} (h : i < n) : σ i ≤ top σ n :=
  Finset.le_sup (f := σ) (Finset.mem_range.mpr h)

/-- Reading more positions does not lower the largest score. -/
theorem top_mono (σ : ℕ → EReal) {n n' : ℕ} (h : n ≤ n') : top σ n ≤ top σ n' :=
  Finset.sup_mono (Finset.range_subset_range.mpr h)

/-- The largest score after `k` more positions is the larger of the old one and the new positions' largest. -/
theorem top_add (σ : ℕ → EReal) (n k : ℕ) :
    top σ (n + k) = max (top σ n) ((Finset.range k).sup fun i => σ (n + i)) := by
  induction k with
  | zero => simp [top]
  | succ k ih =>
    rw [← add_assoc]
    simp only [top, Finset.range_add_one, Finset.sup_insert] at ih ⊢
    rw [ih]
    exact sup_left_comm _ _ _

/-- The sum of the weights after `k` more positions: the old one rescaled, plus the new weights. -/
theorem wsum_add (σ : ℕ → EReal) (n k : ℕ) :
    wsum σ (n + k) = Ideal.exp (top σ n - top σ (n + k)) * wsum σ n
      + ∑ i ∈ Finset.range k, Ideal.exp (σ (n + i) - top σ (n + k)) := by
  have hm : top σ n ≤ top σ (n + k) := top_mono σ (Nat.le_add_right n k)
  rw [wsum, Finset.sum_range_add, wsum, mul_sum (exp_nonneg _) (exp_sub_ne_top hm)]
  congr 1
  exact Finset.sum_congr rfl fun i hi => (exp_rebase (le_top σ (Finset.mem_range.mp hi)) hm).symm

/-- The weighted sum after `k` more positions: the old one rescaled, plus the new positions' weighted values. -/
theorem vsum_add (σ v : ℕ → EReal) (n k : ℕ) :
    vsum σ v (n + k) = vsum σ v n * Ideal.exp (top σ n - top σ (n + k))
      + ∑ i ∈ Finset.range k, Ideal.exp (σ (n + i) - top σ (n + k)) * v (n + i) := by
  have hm : top σ n ≤ top σ (n + k) := top_mono σ (Nat.le_add_right n k)
  rw [vsum, Finset.sum_range_add, vsum, mul_comm (∑ i ∈ _, _), mul_sum (exp_nonneg _) (exp_sub_ne_top hm)]
  congr 1
  refine Finset.sum_congr rfl fun i hi => ?_
  rw [← mul_assoc, exp_rebase (le_top σ (Finset.mem_range.mp hi)) hm]

/-- A maximum taken from `⊥` over `n` coordinates, as the supremum of a sequence that agrees with them. -/
theorem fold_max_eq {n : ℕ} (f : Fin n → EReal) (g : ℕ → EReal) (h : ∀ i : Fin n, f i = g i.val) :
    (Finset.univ : Finset (Fin n)).fold max ⊥ f = (Finset.range n).sup g := by
  change (Finset.univ : Finset (Fin n)).sup f = _
  refine le_antisymm (Finset.sup_le fun i _ => ?_) (Finset.sup_le fun i hi => ?_)
  · rw [h i]; exact Finset.le_sup (f := g) (Finset.mem_range.mpr i.isLt)
  · have := h ⟨i, Finset.mem_range.mp hi⟩
    rw [← this]; exact Finset.le_sup (f := f) (Finset.mem_univ _)

/-- A sum over `n` coordinates, as the sum of a sequence that agrees with them. -/
theorem sum_fin_eq {n : ℕ} (f : Fin n → EReal) (g : ℕ → EReal) (h : ∀ i : Fin n, f i = g i.val) :
    ∑ i, f i = ∑ i ∈ Finset.range n, g i := by
  rw [Finset.sum_range]; exact Finset.sum_congr rfl fun i _ => h i

/-- Masked positions do not change the largest score. -/
theorem top_masked (σ : ℕ → EReal) (n k : ℕ) (h : ∀ i < k, σ (n + i) = ⊥) : top σ (n + k) = top σ n := by
  rw [top_add]
  refine max_eq_left (Finset.sup_le fun i hi => ?_)
  rw [h i (Finset.mem_range.mp hi)]; exact bot_le

/-- Masked positions do not change the sum of the weights. -/
theorem wsum_masked (σ : ℕ → EReal) (n k : ℕ) (h : ∀ i < k, σ (n + i) = ⊥) : wsum σ (n + k) = wsum σ n := by
  rw [wsum, Finset.sum_range_add, top_masked σ n k h, wsum]
  rw [Finset.sum_eq_zero (s := Finset.range k), add_zero]
  intro i hi
  rw [h i (Finset.mem_range.mp hi), EReal.bot_sub, exp_bot]

/-- Masked positions do not change the weighted sum. -/
theorem vsum_masked (σ v : ℕ → EReal) (n k : ℕ) (h : ∀ i < k, σ (n + i) = ⊥) : vsum σ v (n + k) = vsum σ v n := by
  rw [vsum, Finset.sum_range_add, top_masked σ n k h, vsum]
  rw [Finset.sum_eq_zero (s := Finset.range k), add_zero]
  intro i hi
  rw [h i (Finset.mem_range.mp hi), EReal.bot_sub, exp_bot, zero_mul]

/-- The sum of the weights is not negative. -/
theorem wsum_nonneg (σ : ℕ → EReal) (n : ℕ) : 0 ≤ wsum σ n :=
  Finset.sum_nonneg fun _ _ => exp_nonneg _

/-- Each weight is at most their sum. -/
theorem weight_le_wsum (σ : ℕ → EReal) {i n : ℕ} (h : i < n) : Ideal.exp (σ i - top σ n) ≤ wsum σ n :=
  Finset.single_le_sum (f := fun i => Ideal.exp (σ i - top σ n)) (fun _ _ => exp_nonneg _) (Finset.mem_range.mpr h)

/-- The normalised weight of a position: its weight over the sum of the weights, and zero when there is no weight at all. -/
def prob (σ : ℕ → EReal) (n i : ℕ) : EReal :=
  if 0 < wsum σ n then Ideal.div (Ideal.exp (σ i - top σ n)) (wsum σ n) else 0

/-- The weighted sum times the reciprocal of the weights' sum is the sum of the values by normalised weights. -/
theorem vsum_mul_inv (σ v : ℕ → EReal) (n : ℕ) :
    vsum σ v n * Ideal.div 1 (wsum σ n) = ∑ i ∈ Finset.range n, prob σ n i * v i := by
  by_cases hpos : 0 < wsum σ n
  · have hne : wsum σ n ≠ 0 := hpos.ne'
    have h0 : 0 ≤ (wsum σ n)⁻¹ := EReal.inv_nonneg_of_nonneg hpos.le
    have h1 : (wsum σ n)⁻¹ ≠ ⊤ := by
      generalize wsum σ n = w at hpos hne
      induction w with
      | bot => simp
      | top => simp
      | coe r => rw [← EReal.coe_inv]; exact EReal.coe_ne_top _
    simp only [prob, if_pos hpos, Ideal.div, if_neg hne, one_mul]
    rw [vsum, mul_comm, mul_sum h0 h1]
    refine Finset.sum_congr rfl fun i _ => ?_
    rw [← mul_assoc, mul_comm (wsum σ n)⁻¹]
  · have hz : wsum σ n = 0 := le_antisymm (not_lt.mp hpos) (wsum_nonneg σ n)
    have hw : ∀ i ∈ Finset.range n, Ideal.exp (σ i - top σ n) = 0 := fun i hi =>
      le_antisymm (hz ▸ weight_le_wsum σ (Finset.mem_range.mp hi)) (exp_nonneg _)
    simp only [prob, if_neg hpos, zero_mul, Finset.sum_const_zero]
    rw [vsum, Finset.sum_eq_zero, zero_mul]
    intro i hi
    rw [hw i hi, zero_mul]

end Cert.Online

end
-- ==== Proof.Spec.lean ====
/-
What one element of the attention output is, as a function of the nine argument arrays.

A row `r : Fin 128` is a pair (token, head): `r / 32` is which of the four new tokens, `r % 32` the head.  The positions a row
attends to are numbered by one sequence: `0 … 3` are the new tokens, `4 + p` is cache position `p`.
-/
module

public import proofs.«01_k».proof.Proof.Online

@[expose] public section

noncomputable section

namespace Cert.Spec

open Idealize.ShloMosaic

/-- The argument arrays, at the extended reals: queries, their rotary part, the cache's codes, its scales and its rotary part,
    the lengths, and the new tokens' codes, scales and rotary part. -/
structure Args where
  x : Vec Ideal ⟨3, ![8, 4, 16384]⟩ .bf16
  qRope : Vec Ideal ⟨4, ![8, 4, 32, 64]⟩ .bf16
  codes : Vec Ideal ⟨3, ![8, 32768, 512]⟩ .fp8e4m3
  scale : Vec Ideal ⟨3, ![8, 32768, 4]⟩ .f32
  kRope : Vec Ideal ⟨3, ![8, 32768, 64]⟩ .bf16
  lengths : Vec Ideal ⟨1, ![8]⟩ .i32
  newCodes : Vec Ideal ⟨3, ![8, 4, 512]⟩ .fp8e4m3
  newScale : Vec Ideal ⟨3, ![8, 4, 4]⟩ .f32
  newRope : Vec Ideal ⟨3, ![8, 4, 64]⟩ .bf16

namespace Args

variable (A : Args)

/-- The query of row `r`, column `c` of the latent. -/
def q (b : Fin 8) (r : Fin 128) (c : Fin 512) : EReal :=
  A.x (ix3 b ⟨r.val / 32, by omega⟩ ⟨r.val % 32 * 512 + c.val, by omega⟩)

/-- The rotary part of the query of row `r`. -/
def qr (b : Fin 8) (r : Fin 128) (c : Fin 64) : EReal :=
  A.qRope (ix4 b ⟨r.val / 32, by omega⟩ ⟨r.val % 32, by omega⟩ c)

/-- The latent of cache position `p`: code times the scale of the code's block of 128 columns. -/
def latent (b : Fin 8) (p : Fin 32768) (c : Fin 512) : EReal :=
  A.codes (ix3 b p c) * A.scale (ix3 b p ⟨c.val / 128, by omega⟩)

/-- The latent of new token `j`. -/
def newLatent (b : Fin 8) (j : Fin 4) (c : Fin 512) : EReal :=
  A.newCodes (ix3 b j c) * A.newScale (ix3 b j ⟨c.val / 128, by omega⟩)

/-- The factor every score is multiplied by: the inverse square root of 192, as a 32-bit float. -/
def smScale : EReal := Ideal.ofBits .f32 0x3D93CD3A#32

/-- Block `k` of 128 columns of the product of a query and a cache position, scaled. -/
def blockScore (b : Fin 8) (r : Fin 128) (p : Fin 32768) (k : Fin 4) : EReal :=
  (∑ c : Fin 128, A.q b r ⟨128 * k.val + c.val, by omega⟩ * A.codes (ix3 b p ⟨128 * k.val + c.val, by omega⟩))
    * A.scale (ix3 b p k)

/-- The rotary part of a score against the cache. -/
def ropeScore (b : Fin 8) (r : Fin 128) (p : Fin 32768) : EReal :=
  ∑ c : Fin 64, A.qr b r c * A.kRope (ix3 b p c)

/-- The score of row `r` against cache position `p`, masked beyond the sequence's length. -/
def cacheScore (b : Fin 8) (r : Fin 128) (p : Fin 32768) : EReal :=
  if (BitVec.ofNat 32 p.val).slt (A.lengths (ix1 b)) = true then
    (A.blockScore b r p 0 + A.blockScore b r p 1 + A.blockScore b r p 2 + A.blockScore b r p 3 + A.ropeScore b r p) * smScale
  else ⊥

/-- The score of row `r` against new token `j`, masked where the token is later than the row's own. -/
def newScore (b : Fin 8) (r : Fin 128) (j : Fin 4) : EReal :=
  if j.val ≤ r.val / 32 then
    (∑ c : Fin 512, A.q b r c * A.newLatent b j c + ∑ c : Fin 64, A.qr b r c * A.newRope (ix3 b j c)) * smScale
  else ⊥

/-- The scores of row `r` as one sequence: the new tokens, then the cache. -/
def score (b : Fin 8) (r : Fin 128) (i : ℕ) : EReal :=
  if h : i < 4 then A.newScore b r ⟨i, h⟩
  else if h' : i - 4 < 32768 then A.cacheScore b r ⟨i - 4, h'⟩ else ⊥

/-- Column `c` of the latents as one sequence: the new tokens, then the cache. -/
def value (b : Fin 8) (c : Fin 512) (i : ℕ) : EReal :=
  if h : i < 4 then A.newLatent b ⟨i, h⟩ c
  else if h' : i - 4 < 32768 then A.latent b ⟨i - 4, h'⟩ c else 0

/-- The output: the softmax of the row's scores times the latents. -/
def out (b : Fin 8) (r : Fin 128) (c : Fin 512) : EReal :=
  ∑ i ∈ Finset.range (4 + 32768), Online.prob (A.score b r) (4 + 32768) i * A.value b c i

/-- The first four scores of a row are those of the new tokens. -/
theorem score_new (b : Fin 8) (r : Fin 128) (j : Fin 4) : A.score b r j.val = A.newScore b r j := by
  simp [score, j.isLt]

/-- The scores after the first four are those of the cache. -/
theorem score_cache (b : Fin 8) (r : Fin 128) (p : Fin 32768) : A.score b r (4 + p.val) = A.cacheScore b r p := by
  have h := p.isLt
  simp [score, h]

/-- The first four values are the new tokens' latents. -/
theorem value_new (b : Fin 8) (c : Fin 512) (j : Fin 4) : A.value b c j.val = A.newLatent b j c := by
  simp [value, j.isLt]

/-- The values after the first four are the cache's latents. -/
theorem value_cache (b : Fin 8) (c : Fin 512) (p : Fin 32768) : A.value b c (4 + p.val) = A.latent b p c := by
  have h := p.isLt
  simp [value, h]

end Args

end Cert.Spec

end
-- ==== Proof.RefScores.lean ====
/-
What the reference's two masked score arrays hold at an index.
-/
module

public import proofs.«01_k».proof.Proof.Spec
public import proofs.«01_k».proof.Proof.Gen.ReferenceIdeal.Read

@[expose] public section

set_option maxRecDepth 16384

noncomputable section

namespace Cert.RefScores

open Idealize.ShloMosaic Cert.ReferenceIdeal Cert.ReferenceIdeal.Read

variable (A : Cert.Spec.Args)

/-- An element of a rank-1 array, named by its coordinate. -/
theorem at1 {α : Type} {n0 : ℕ} (X : (⟨1, ![n0]⟩ : Shape).Idx → α) (i : (⟨1, ![n0]⟩ : Shape).Idx) (a : Fin n0)
    (h0 : (i 0).val = a.val) : X i = X (ix1 a) :=
  congrArg X (funext fun d => match d with | ⟨0, _⟩ => Fin.ext h0)

/-- An element of a rank-3 array, named by its coordinates. -/
theorem at3 {α : Type} {n0 n1 n2 : ℕ} (X : (⟨3, ![n0, n1, n2]⟩ : Shape).Idx → α) (i : (⟨3, ![n0, n1, n2]⟩ : Shape).Idx)
    (a : Fin n0) (b : Fin n1) (c : Fin n2) (h0 : (i 0).val = a.val) (h1 : (i 1).val = b.val) (h2 : (i 2).val = c.val) :
    X i = X (ix3 a b c) :=
  congrArg X (funext fun d => match d with | ⟨0, _⟩ => Fin.ext h0 | ⟨1, _⟩ => Fin.ext h1 | ⟨2, _⟩ => Fin.ext h2)

/-- An element of a rank-4 array, named by its coordinates. -/
theorem at4 {α : Type} {n0 n1 n2 n3 : ℕ} (X : (⟨4, ![n0, n1, n2, n3]⟩ : Shape).Idx → α)
    (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) :
    X i = X (ix4 a b c d) :=
  congrArg X (funext fun d => match d with
    | ⟨0, _⟩ => Fin.ext h0 | ⟨1, _⟩ => Fin.ext h1 | ⟨2, _⟩ => Fin.ext h2 | ⟨3, _⟩ => Fin.ext h3)

/-- The reshaped queries hold, at (batch, token, head, column), the row's query. -/
theorem query_at (i : S8x4x32x512.Idx) (b : Fin 8) (r : Fin 128) (c : Fin 512) (h0 : (i 0).val = b.val)
    (h1 : (i 1).val = r.val / 32) (h2 : (i 2).val = r.val % 32) (h3 : (i 3).val = c.val) :
    val_main_v1 (F := Ideal) A.x i = A.q b r c := by
  rw [val_main_v1_apply, Cert.Spec.Args.q]
  apply at3 <;> simp only [h0, h1, h2, h3] <;> omega

/-- The pattern of minus infinity is the least extended real. -/
theorem bot_eq : FloatOps.ofBits (F := Ideal) .f32 4286578688#32 = ⊥ := by simp [Ideal.ofBits, Ideal.ieee]

/-- The comparison of two token numbers as words is their comparison as numbers. -/
theorem causal_iff : ∀ j t : Fin 4, (BitVec.ofNat 32 j.val).sle (BitVec.ofNat 32 t.val) = decide (j.val ≤ t.val) := by
  decide

/-- One block of 128 columns of a score against the cache: the sum of products, times the position's scale. -/
theorem block_at (b : Fin 8) (r : Fin 128) (p : Fin 32768) (k : Fin 4) (qi : Fin 128 → S8x4x32x512.Idx)
    (ci : Fin 128 → S8x32768x512.Idx) (si : S8x32768x4.Idx)
    (q0 : ∀ x, (qi x 0).val = b.val) (q1 : ∀ x, (qi x 1).val = r.val / 32) (q2 : ∀ x, (qi x 2).val = r.val % 32)
    (q3 : ∀ x, (qi x 3).val = 128 * k.val + x.val)
    (c0 : ∀ x, (ci x 0).val = b.val) (c1 : ∀ x, (ci x 1).val = p.val) (c2 : ∀ x, (ci x 2).val = 128 * k.val + x.val)
    (s0 : (si 0).val = b.val) (s1 : (si 1).val = p.val) (s2 : (si 2).val = k.val) :
    (∑ x : Fin 128, val_main_v1 (F := Ideal) A.x (qi x) * A.codes (ci x)) * A.scale si = A.blockScore b r p k := by
  rw [Cert.Spec.Args.blockScore, at3 A.scale si _ _ _ s0 s1 s2]
  congr 1
  refine Finset.sum_congr rfl fun x _ => ?_
  rw [query_at A _ b r ⟨128 * k.val + x.val, by omega⟩ (q0 x) (q1 x) (q2 x) (q3 x),
    at3 A.codes _ b p ⟨128 * k.val + x.val, by omega⟩ (c0 x) (c1 x) (c2 x)]

/-- The reference's scores against the cache, before they are scaled and masked. -/
theorem cacheRaw_eq (b : Fin 8) (r : Fin 128) (p : Fin 32768) (i : S8x4x32x32768.Idx) (h0 : (i 0).val = b.val)
    (h1 : (i 1).val = r.val / 32) (h2 : (i 2).val = r.val % 32) (h3 : (i 3).val = p.val) :
    val_main_v42 (F := Ideal) A.x A.qRope A.scale A.kRope A.codes i
      = A.blockScore b r p 0 + A.blockScore b r p 1 + A.blockScore b r p 2 + A.blockScore b r p 3 + A.ropeScore b r p := by
  simp only [val_main_v42_apply, val_main_v40_apply, val_main_v31_apply, val_main_v22_apply, val_main_v13_apply,
    val_main_v21_apply, val_main_v30_apply, val_main_v39_apply, val_main_v8_apply, val_main_v16_apply, val_main_v25_apply,
    val_main_v34_apply, val_main_v41_apply, val_main_v6_apply, val_main_v7_apply, val_main_v14_apply, val_main_v15_apply,
    val_main_v23_apply, val_main_v24_apply, val_main_v32_apply, val_main_v33_apply, val_main_v12_apply, val_main_v11_apply,
    val_main_v10_apply, val_main_v9_apply, val_main_v20_apply, val_main_v19_apply, val_main_v18_apply, val_main_v17_apply,
    val_main_v29_apply, val_main_v28_apply, val_main_v27_apply, val_main_v26_apply, val_main_v38_apply, val_main_v37_apply,
    val_main_v36_apply, val_main_v35_apply, Ideal.addf_def, Ideal.mulf_def]
  have hp := p.isLt
  refine congrArg₂ _ (congrArg₂ _ (congrArg₂ _ (congrArg₂ _ ?_ ?_) ?_) ?_) ?_
  · apply block_at <;> intros <;> simp [h0, h1, h2, h3] <;> omega
  · apply block_at <;> intros <;> simp [h0, h1, h2, h3] <;> omega
  · apply block_at <;> intros <;> simp [h0, h1, h2, h3] <;> omega
  · apply block_at <;> intros <;> simp [h0, h1, h2, h3] <;> omega
  · refine Finset.sum_congr rfl fun k _ => congrArg₂ _ ?_ ?_
    · exact at4 A.qRope _ _ _ _ _ h0 h1 h2 rfl
    · exact at3 A.kRope _ _ _ _ h0 h3 rfl

/-- The reference's scores against the cache, scaled and masked. -/
theorem cacheScore_eq (b : Fin 8) (r : Fin 128) (p : Fin 32768) (i : S8x4x32x32768.Idx) (h0 : (i 0).val = b.val)
    (h1 : (i 1).val = r.val / 32) (h2 : (i 2).val = r.val % 32) (h3 : (i 3).val = p.val) :
    val_main_v65 (F := Ideal) A.x A.qRope A.scale A.kRope A.lengths A.codes i = A.cacheScore b r p := by
  rw [val_main_v65_apply, val_main_v44_apply, cacheRaw_eq A b r p i h0 h1 h2 h3]
  simp only [val_main_call0_v1_apply, val_main_v56_apply, val_main_v55_apply, val_main_v54_apply, val_main_v53_apply,
    val_main_v52_apply, val_main_v51_apply, val_main_v50_apply, val_main_call0_v2_apply, val_main_call0_v0_apply,
    val_main_cst_1_apply, val_main_v43_apply, val_main_cst_apply, Ideal.mulf_def, Cert.Spec.Args.cacheScore]
  rw [bot_eq, IntOp.cmpi, WordCmp.select_ofBool]
  have hl : A.lengths (idx_main_v52 (idx_main_v54 (idx_main_v56 (idx_main_call0_v1 i)))) = A.lengths (ix1 b) :=
    at1 A.lengths _ _ (by simp [h0])
  rw [hl, h3]
  rfl

/-- The new tokens' latents. -/
theorem newLatent_at (i : S8x4x512.Idx) (b : Fin 8) (j : Fin 4) (c : Fin 512) (h0 : (i 0).val = b.val)
    (h1 : (i 1).val = j.val) (h2 : (i 2).val = c.val) :
    val_main_v5 (F := Ideal) A.newScale A.newCodes i = A.newLatent b j c := by
  simp only [val_main_v5_apply, val_main_v4_apply, val_main_v3_apply, val_main_v2_apply, Ideal.mulf_def]
  rw [Cert.Spec.Args.newLatent]
  refine congrArg₂ _ (at3 A.newCodes _ _ _ _ h0 h1 h2) ?_
  refine at3 A.newScale _ _ _ _ ?_ ?_ ?_ <;> simp [h0, h1, h2] <;> omega

/-- The reference's scores against the new tokens, scaled and masked. -/
theorem newScore_eq (b : Fin 8) (r : Fin 128) (j : Fin 4) (i : S8x4x32x4.Idx) (h0 : (i 0).val = b.val)
    (h1 : (i 1).val = r.val / 32) (h2 : (i 2).val = r.val % 32) (h3 : (i 3).val = j.val) :
    val_main_v66 (F := Ideal) A.x A.qRope A.newScale A.newRope A.newCodes i = A.newScore b r j := by
  rw [val_main_v66_apply, val_main_v49_apply]
  simp only [val_main_v47_apply, val_main_v46_apply, val_main_v45_apply,
    val_main_call1_v1_apply, val_main_v64_apply, val_main_v63_apply, val_main_v62_apply, val_main_v61_apply,
    val_main_v60_apply, val_main_v59_apply, val_main_v58_apply, val_main_v57_apply, val_main_call1_v2_apply, val_main_call1_v0_apply,
    val_main_cst_2_apply, val_main_v48_apply, val_main_cst_0_apply, Ideal.mulf_def, Ideal.addf_def, Cert.Spec.Args.newScore]
  rw [bot_eq, IntOp.cmpi, WordCmp.select_ofBool]
  have hm : (BitVec.ofNat 32 (i 3).val).sle (BitVec.ofNat 32 (i 1).val) = decide (j.val ≤ r.val / 32) := by
    rw [h3, h1]
    exact causal_iff j ⟨r.val / 32, by omega⟩
  simp only [hm, decide_eq_true_eq]
  congr 1
  refine congrArg₂ _ (congrArg₂ _ (Finset.sum_congr rfl fun c _ => congrArg₂ _ ?_ ?_)
    (Finset.sum_congr rfl fun c _ => congrArg₂ _ ?_ ?_)) rfl
  · exact query_at A _ b r c h0 h1 h2 rfl
  · exact newLatent_at A _ b j c h0 h3 rfl
  · exact at4 A.qRope _ _ _ _ _ h0 h1 h2 rfl
  · exact at3 A.newRope _ _ _ _ h0 h3 rfl

end Cert.RefScores

end
-- ==== Proof.StepUpdate.lean ====
/-
One step of the kernel over a tile of the cache: what the three running arrays hold afterwards.

Row `r` of the running arrays belongs to row `r` of the batch's queries.  `Holds A b N` says that they hold the online softmax
of the first `N` positions of that row: the largest score, the sum of weights and, column by column, the weighted sum of
values.  A step over tile `t` takes `Holds` from `4 + 1024 t` positions to `4 + 1024 (t + 1)`; the tile's scores are the
reference's, because extended reals may be added in any order.
-/
module

public import proofs.«01_k».proof.Proof.Step
public import proofs.«01_k».proof.Proof.RefScores

@[expose] public section

set_option maxRecDepth 16384

noncomputable section

namespace Cert.Step

open Idealize.ShloMosaic Idealize.ShloMosaic.TcCoe Idealize.SL.Sem Cert.KernelIdeal Cert.KernelIdeal.Gen Cert.RefScores

/-- Position `p` of tile `t`. -/
abbrev pos (t : Fin 32) (p : Fin 1024) : Fin 32768 := ⟨1024 * t.val + p.val, by omega⟩

/-- Column `l` of column block `k`. -/
abbrev col (k : Fin 4) (l : Fin 128) : Fin 512 := ⟨128 * k.val + l.val, by omega⟩

/-- The query blocks are the batch's rows. -/
structure Rows (A : Spec.Args) (b : Fin 8) (x0 : Vec Ideal S1x128x512 .bf16) (x1 : Vec Ideal S1x128x64 .bf16) : Prop where
  q : ∀ r c, x0 (ix3 0 r c) = A.q b r c
  qr : ∀ r c, x1 (ix3 0 r c) = A.qr b r c

/-- The cache blocks are tile `t` of the batch's cache. -/
structure Tile (A : Spec.Args) (b : Fin 8) (t : Fin 32) (x2 : Vec Ideal S1x1024x512 .fp8e4m3) (x3 : Vec Ideal S1x4x1024 .f32)
    (x4 : Vec Ideal S1x64x1024 .bf16) : Prop where
  codes : ∀ p c, x2 (ix3 0 p c) = A.codes (ix3 b (pos t p) c)
  scale : ∀ k p, x3 (ix3 0 k p) = A.scale (ix3 b (pos t p) k)
  rope : ∀ c p, x4 (ix3 0 c p) = A.kRope (ix3 b (pos t p) c)

/-- The running largest score and sum of weights are those of the first `n` positions. -/
structure HoldsSums (A : Spec.Args) (b : Fin 8) (n : ℕ) (top sum : Vec Ideal S128x128 .f32) : Prop where
  top : ∀ r l, top (ix2 r l) = Online.top (A.score b r) n
  sum : ∀ r l, sum (ix2 r l) = Online.wsum (A.score b r) n

/-- The running weighted sum is that of the first `n` positions. -/
def HoldsAcc (A : Spec.Args) (b : Fin 8) (n : ℕ) (acc : Vec Ideal S128x512 .f32) : Prop :=
  ∀ r c, acc (ix2 r c) = Online.vsum (A.score b r) (A.value b c) n

/-- Column block `k` of the running weighted sum is that of the first `n` positions. -/
def HoldsBlock (A : Spec.Args) (b : Fin 8) (n : ℕ) (k : Fin 4) (a : Vec Ideal S128x128 .f32) : Prop :=
  ∀ r l, a (ix2 r l) = Online.vsum (A.score b r) (A.value b (col k l)) n

section Loads

variable (x0 : Vec Ideal S1x128x512 .bf16) (x2 : Vec Ideal S1x1024x512 .fp8e4m3) (x3 : Vec Ideal S1x4x1024 .f32)
  (acc : Vec Ideal S128x512 .f32) (r l : Fin 128) (p : Fin 1024)

/-- An element of a block cut out of a rank-3 array, named by its coordinates in the array. -/
theorem ld3 {e : EltTy} {n0 n1 n2 : ℕ} (X : Vec Ideal ⟨3, ![n0, n1, n2]⟩ e) (off size : Fin 3 → ℕ) (inb)
    (x : (Rect.unit (s := ⟨3, ![n0, n1, n2]⟩) off size inb).shape.Idx) (a : Fin n0) (b : Fin n1) (c : Fin n2)
    (h0 : a.val = off 0 + (x 0).val) (h1 : b.val = off 1 + (x 1).val) (h2 : c.val = off 2 + (x 2).val) :
    View.ld (Val := Elt Ideal) X (Rect.unit off size inb) x = X (ix3 a b c) :=
  View.ld_unit_apply_of _ _ _ _ _ _ fun d => match d with | ⟨0, _⟩ => h0 | ⟨1, _⟩ => h1 | ⟨2, _⟩ => h2

/-- An element of a block cut out of a rank-2 array, named by its coordinates in the array. -/
theorem ld2 {e : EltTy} {n0 n1 : ℕ} (X : Vec Ideal ⟨2, ![n0, n1]⟩ e) (off size : Fin 2 → ℕ) (inb)
    (x : (Rect.unit (s := ⟨2, ![n0, n1]⟩) off size inb).shape.Idx) (a : Fin n0) (b : Fin n1)
    (h0 : a.val = off 0 + (x 0).val) (h1 : b.val = off 1 + (x 1).val) :
    View.ld (Val := Elt Ideal) X (Rect.unit off size inb) x = X (ix2 a b) :=
  View.ld_unit_apply_of _ _ _ _ _ _ fun d => match d with | ⟨0, _⟩ => h0 | ⟨1, _⟩ => h1

/-! An element of a column block of the queries, of the codes, of the scales and of the weighted sum, in the whole block. -/

theorem q0_at : q0 x0 (ix3 0 r l) = x0 (ix3 0 r (col 0 l)) := ld3 _ _ _ _ _ _ _ _ rfl (Nat.zero_add _).symm rfl
theorem q1_at : q1 x0 (ix3 0 r l) = x0 (ix3 0 r (col 1 l)) := ld3 _ _ _ _ _ _ _ _ rfl (Nat.zero_add _).symm rfl
theorem q2_at : q2 x0 (ix3 0 r l) = x0 (ix3 0 r (col 2 l)) := ld3 _ _ _ _ _ _ _ _ rfl (Nat.zero_add _).symm rfl
theorem q3_at : q3 x0 (ix3 0 r l) = x0 (ix3 0 r (col 3 l)) := ld3 _ _ _ _ _ _ _ _ rfl (Nat.zero_add _).symm rfl
theorem codes0_at : codes0 x2 (ix3 0 p l) = x2 (ix3 0 p (col 0 l)) := ld3 _ _ _ _ _ _ _ _ rfl (Nat.zero_add _).symm rfl
theorem codes1_at : codes1 x2 (ix3 0 p l) = x2 (ix3 0 p (col 1 l)) := ld3 _ _ _ _ _ _ _ _ rfl (Nat.zero_add _).symm rfl
theorem codes2_at : codes2 x2 (ix3 0 p l) = x2 (ix3 0 p (col 2 l)) := ld3 _ _ _ _ _ _ _ _ rfl (Nat.zero_add _).symm rfl
theorem codes3_at : codes3 x2 (ix3 0 p l) = x2 (ix3 0 p (col 3 l)) := ld3 _ _ _ _ _ _ _ _ rfl (Nat.zero_add _).symm rfl
theorem scale0_at : scale0 x3 (ix3 0 0 p) = x3 (ix3 0 0 p) := ld3 _ _ _ _ _ _ _ _ rfl rfl (Nat.zero_add _).symm
theorem scale1_at : scale1 x3 (ix3 0 0 p) = x3 (ix3 0 1 p) := ld3 _ _ _ _ _ _ _ _ rfl rfl (Nat.zero_add _).symm
theorem scale2_at : scale2 x3 (ix3 0 0 p) = x3 (ix3 0 2 p) := ld3 _ _ _ _ _ _ _ _ rfl rfl (Nat.zero_add _).symm
theorem scale3_at : scale3 x3 (ix3 0 0 p) = x3 (ix3 0 3 p) := ld3 _ _ _ _ _ _ _ _ rfl rfl (Nat.zero_add _).symm
theorem acc0_at : acc0 acc (ix2 r l) = acc (ix2 r (col 0 l)) := ld2 _ _ _ _ _ _ _ (Nat.zero_add _).symm rfl
theorem acc1_at : acc1 acc (ix2 r l) = acc (ix2 r (col 1 l)) := ld2 _ _ _ _ _ _ _ (Nat.zero_add _).symm rfl
theorem acc2_at : acc2 acc (ix2 r l) = acc (ix2 r (col 2 l)) := ld2 _ _ _ _ _ _ _ (Nat.zero_add _).symm rfl
theorem acc3_at : acc3 acc (ix2 r l) = acc (ix2 r (col 3 l)) := ld2 _ _ _ _ _ _ _ (Nat.zero_add _).symm rfl

end Loads

/-- The constant a masked score is replaced by is the least extended real. -/
theorem mask_eq : Named.named (F := Ideal) (φ := .f32) κ "mask" 0xF149F2CA#32 = ⊥ :=
  IdealRules.named_const.ideal_named_scalar _ _ _ _ rfl

/-- The position of a tile's element, computed in words. -/
theorem pos_word (t : Fin 32) (p : Fin 1024) :
    IntOp.addi (Scalar.muli (BitVec.ofNat 32 t.val) 1024#32) (BitVec.ofNat 32 p.val) = BitVec.ofNat 32 (pos t p).val := by
  show BitVec.ofNat 32 t.val * BitVec.ofNat 32 1024 + BitVec.ofNat 32 p.val = _
  rw [← BitVec.ofNat_mul, ← BitVec.ofNat_add, Nat.mul_comm]

section Update

variable {A : Spec.Args} {b : Fin 8} {t : Fin 32} {x0 : Vec Ideal S1x128x512 .bf16} {x1 : Vec Ideal S1x128x64 .bf16}
  {x2 : Vec Ideal S1x1024x512 .fp8e4m3} {x3 : Vec Ideal S1x4x1024 .f32} {x4 : Vec Ideal S1x64x1024 .bf16}
  (hR : Rows A b x0 x1) (hT : Tile A b t x2 x3 x4)
  {top sum : Vec Ideal S128x128 .f32} {acc : Vec Ideal S128x512 .f32}

include hR hT

/-- A column block of a score, from the block's own queries, codes and scale. -/
theorem block_at (r : Fin 128) (p : Fin 1024) (k : Fin 4) {f g : Fin 128 → EReal} {s : EReal}
    (hf : ∀ x, f x = x0 (ix3 0 r (col k x))) (hg : ∀ x, g x = x2 (ix3 0 p (col k x))) (hs : s = x3 (ix3 0 k p)) :
    (∑ x, f x * g x) * s = A.blockScore b r (pos t p) k := by
  rw [hs, hT.scale]
  exact congrArg (· * A.scale (ix3 b (pos t p) k)) (Finset.sum_congr rfl fun x _ =>
    congrArg₂ (· * ·) ((hf x).trans (hR.q r _)) ((hg x).trans (hT.codes p _)))

/-- The rotary part and the first two column blocks of the tile's scores. -/
theorem partScore_at (r : Fin 128) (p : Fin 1024) :
    partScore x0 x1 x2 x3 x4 (ix2 r p)
      = A.ropeScore b r (pos t p) + A.blockScore b r (pos t p) 0 + A.blockScore b r (pos t p) 1 := by
  pointwise [partScore, k0_pay19]
  exact congrArg₂ (· + ·) (congrArg₂ (· + ·)
    (Finset.sum_congr rfl fun x _ => congrArg₂ (· * ·) (hR.qr r x) (hT.rope x p))
    (block_at hR hT r p 0 (q0_at x0 r) (fun l => codes0_at x2 l p) (scale0_at x3 p)))
    (block_at hR hT r p 1 (q1_at x0 r) (fun l => codes1_at x2 l p) (scale1_at x3 p))

/-- The tile's scores are the scores of its positions. -/
theorem tileScore_at (r : Fin 128) (p : Fin 1024) :
    tileScore (BitVec.ofNat 32 t.val) (A.lengths (ix1 b)) x0 x1 x2 x3 x4 (ix2 r p)
      = A.score b r (4 + 1024 * t.val + p.val) := by
  pointwise [tileScore, k0_pay21, k0_pay20]
  rw [partScore_at hR hT r p, mask_eq, pos_word]
  rw [add_assoc 4, A.score_cache b r (pos t p), Spec.Args.cacheScore, IntOp.cmpi, WordCmp.select_ofBool]
  refine if_congr Iff.rfl (congrArg (· * Spec.Args.smScale) ?_) rfl
  refine (congrArg₂ (· + ·) (congrArg (_ + ·)
    (block_at hR hT r p 2 (q2_at x0 r) (fun l => codes2_at x2 l p) (scale2_at x3 p)))
    (block_at hR hT r p 3 (q3_at x0 r) (fun l => codes3_at x2 l p) (scale3_at x3 p))).trans ?_
  show A.ropeScore b r (pos t p) + A.blockScore b r (pos t p) 0 + A.blockScore b r (pos t p) 1
      + A.blockScore b r (pos t p) 2 + A.blockScore b r (pos t p) 3 = _
  abel

/-- The largest score after the tile. -/
theorem nextTop_at (h : ∀ r l, top (ix2 r l) = Online.top (A.score b r) (4 + 1024 * t.val)) (r l : Fin 128) :
    nextTop (BitVec.ofNat 32 t.val) (A.lengths (ix1 b)) x0 x1 x2 x3 x4 top (ix2 r l)
      = Online.top (A.score b r) (4 + 1024 * t.val + 1024) := by
  pointwise [nextTop, k0_pay22]
  rw [Online.top_add, h]
  congr 1
  exact (congrArg (fun z => Finset.fold max z _ _) bot_eq).trans
    (Online.fold_max_eq _ (fun i => A.score b r (4 + 1024 * t.val + i)) fun p => tileScore_at hR hT r p)

/-- The factor the old sums are multiplied by. -/
theorem rescale_at (h : ∀ r l, top (ix2 r l) = Online.top (A.score b r) (4 + 1024 * t.val)) (r l : Fin 128) :
    rescale (BitVec.ofNat 32 t.val) (A.lengths (ix1 b)) x0 x1 x2 x3 x4 top (ix2 r l)
      = Ideal.exp (Online.top (A.score b r) (4 + 1024 * t.val) - Online.top (A.score b r) (4 + 1024 * t.val + 1024)) := by
  have e : rescale (BitVec.ofNat 32 t.val) (A.lengths (ix1 b)) x0 x1 x2 x3 x4 top (ix2 r l)
      = Ideal.exp (top (ix2 r l) - nextTop (BitVec.ofNat 32 t.val) (A.lengths (ix1 b)) x0 x1 x2 x3 x4 top (ix2 r l)) := by
    pointwise [rescale, k0_pay23]
    rfl
  rw [e, h, nextTop_at hR hT h]

/-- The tile's weights. -/
theorem weights_at (h : ∀ r l, top (ix2 r l) = Online.top (A.score b r) (4 + 1024 * t.val)) (r : Fin 128) (p : Fin 1024) :
    weights (BitVec.ofNat 32 t.val) (A.lengths (ix1 b)) x0 x1 x2 x3 x4 top (ix2 r p)
      = Ideal.exp (A.score b r (4 + 1024 * t.val + p.val) - Online.top (A.score b r) (4 + 1024 * t.val + 1024)) := by
  have e : weights (BitVec.ofNat 32 t.val) (A.lengths (ix1 b)) x0 x1 x2 x3 x4 top (ix2 r p)
      = Ideal.exp (tileScore (BitVec.ofNat 32 t.val) (A.lengths (ix1 b)) x0 x1 x2 x3 x4 (ix2 r p)
          - nextTop (BitVec.ofNat 32 t.val) (A.lengths (ix1 b)) x0 x1 x2 x3 x4 top (ix2 r 0)) := by
    pointwise [weights, k0_pay24]
    rfl
  rw [e, tileScore_at hR hT, nextTop_at hR hT h]

/-- The step keeps the largest score and the sum of weights. -/
theorem step_sums (h : HoldsSums A b (4 + 1024 * t.val) top sum) :
    HoldsSums A b (4 + 1024 * t.val + 1024)
      (stepTop (BitVec.ofNat 32 t.val) (A.lengths (ix1 b)) x0 x1 x2 x3 x4 top)
      (stepSum (BitVec.ofNat 32 t.val) (A.lengths (ix1 b)) x0 x1 x2 x3 x4 top sum) := by
  constructor
  · intro r l
    pointwise [stepTop, k0_pay26]
    exact nextTop_at hR hT h.top r l
  · intro r l
    pointwise [stepSum, k0_pay25]
    rw [rescale_at hR hT h.top, h.sum, Online.wsum_add _ (4 + 1024 * t.val)]
    congr 1
    exact Online.sum_fin_eq _ (fun i => Ideal.exp (A.score b r (4 + 1024 * t.val + i)
      - Online.top (A.score b r) (4 + 1024 * t.val + 1024))) fun p => weights_at hR hT h.top r p

/-- A weight times a code times its scale is the position's weighted value. -/
theorem value_at (h : ∀ r l, top (ix2 r l) = Online.top (A.score b r) (4 + 1024 * t.val)) (r : Fin 128) (k : Fin 4) (l : Fin 128)
    (p : Fin 1024) :
    weights (BitVec.ofNat 32 t.val) (A.lengths (ix1 b)) x0 x1 x2 x3 x4 top (ix2 r p) * (x2 (ix3 0 p (col k l)) * x3 (ix3 0 k p))
      = Ideal.exp (A.score b r (4 + 1024 * t.val + p.val) - Online.top (A.score b r) (4 + 1024 * t.val + 1024))
        * A.value b (col k l) (4 + 1024 * t.val + p.val) := by
  rw [weights_at hR hT h, hT.codes, hT.scale, add_assoc 4, A.value_cache b (col k l) (pos t p), Spec.Args.latent]
  have hk : (⟨(col k l).val / 128, by omega⟩ : Fin 4) = k := Fin.ext (by show (128 * k.val + l.val) / 128 = k.val; omega)
  rw [hk]

/-- A column block of the weighted sum after the tile, from the block's own old sum and codes. -/
theorem block_step (h : ∀ r l, top (ix2 r l) = Online.top (A.score b r) (4 + 1024 * t.val))
    (hA : HoldsAcc A b (4 + 1024 * t.val) acc) (k : Fin 4) (r l : Fin 128) {a : EReal} {g : Fin 1024 → EReal}
    (ha : a = acc (ix2 r (col k l))) (hg : ∀ p, g p = x2 (ix3 0 p (col k l))) :
    a * rescale (BitVec.ofNat 32 t.val) (A.lengths (ix1 b)) x0 x1 x2 x3 x4 top (ix2 r l)
        + ∑ p : Fin 1024, weights (BitVec.ofNat 32 t.val) (A.lengths (ix1 b)) x0 x1 x2 x3 x4 top (ix2 r p)
            * (g p * x3 (ix3 0 k p))
      = Online.vsum (A.score b r) (A.value b (col k l)) (4 + 1024 * t.val + 1024) := by
  rw [ha, hA, rescale_at hR hT h, Online.vsum_add _ _ (4 + 1024 * t.val)]
  congr 1
  refine Online.sum_fin_eq _ (fun i => Ideal.exp (A.score b r (4 + 1024 * t.val + i)
    - Online.top (A.score b r) (4 + 1024 * t.val + 1024)) * A.value b (col k l) (4 + 1024 * t.val + i)) fun p => ?_
  rw [hg]
  exact value_at hR hT h r k l p

variable (h : ∀ r l, top (ix2 r l) = Online.top (A.score b r) (4 + 1024 * t.val)) (hA : HoldsAcc A b (4 + 1024 * t.val) acc)

include h hA

/-- Column block 0 of the weighted sum after the tile. -/
theorem step_acc0 : HoldsBlock A b (4 + 1024 * t.val + 1024) 0
    (stepAcc0 (BitVec.ofNat 32 t.val) (A.lengths (ix1 b)) x0 x1 x2 x3 x4 top acc) := by
  intro r l
  pointwise [stepAcc0, k0_pay29, k0_pay27, k0_pay28]
  exact block_step hR hT h hA 0 r l (acc0_at acc r l) (codes0_at x2 l)

/-- Column block 1 of the weighted sum after the tile. -/
theorem step_acc1 : HoldsBlock A b (4 + 1024 * t.val + 1024) 1
    (stepAcc1 (BitVec.ofNat 32 t.val) (A.lengths (ix1 b)) x0 x1 x2 x3 x4 top acc) := by
  intro r l
  pointwise [stepAcc1, k0_pay7, k0_pay27, k0_pay28, k0_pay30]
  exact block_step hR hT h hA 1 r l (acc1_at acc r l) (codes1_at x2 l)

/-- Column block 2 of the weighted sum after the tile. -/
theorem step_acc2 : HoldsBlock A b (4 + 1024 * t.val + 1024) 2
    (stepAcc2 (BitVec.ofNat 32 t.val) (A.lengths (ix1 b)) x0 x1 x2 x3 x4 top acc) := by
  intro r l
  pointwise [stepAcc2, k0_pay8, k0_pay27, k0_pay28]
  exact block_step hR hT h hA 2 r l (acc2_at acc r l) (codes2_at x2 l)

/-- Column block 3 of the weighted sum after the tile. -/
theorem step_acc3 : HoldsBlock A b (4 + 1024 * t.val + 1024) 3
    (stepAcc3 (BitVec.ofNat 32 t.val) (A.lengths (ix1 b)) x0 x1 x2 x3 x4 top acc) := by
  intro r l
  pointwise [stepAcc3, k0_pay9, k0_pay27, k0_pay28]
  exact block_step hR hT h hA 3 r l (acc3_at acc r l) (codes3_at x2 l)

end Update

end Cert.Step

end

end
-- ==== Proof.StepInit.lean ====
/-
What the kernel's running arrays hold after the first step of a batch has read the new tokens: the online softmax of the four
new tokens, `Holds` of the first four positions.
-/
module

public import proofs.«01_k».proof.Proof.StepUpdate

@[expose] public section

set_option maxRecDepth 16384

noncomputable section

namespace Cert.Step

open Idealize.ShloMosaic Idealize.ShloMosaic.TcCoe Idealize.SL.Sem Cert.KernelIdeal Cert.KernelIdeal.Gen Cert.RefScores

/-- The blocks of the new tokens are the batch's. -/
structure New (A : Spec.Args) (b : Fin 8) (x5 : Vec Ideal S1x4x512 .fp8e4m3) (x6 : Vec Ideal S1x4x4 .f32)
    (x7 : Vec Ideal S1x4x64 .bf16) : Prop where
  codes : ∀ j c, x5 (ix3 0 j c) = A.newCodes (ix3 b j c)
  scale : ∀ j k, x6 (ix3 0 j k) = A.newScale (ix3 b j k)
  rope : ∀ j c, x7 (ix3 0 j c) = A.newRope (ix3 b j c)

/-- The kernel's test of a row's token against a new token, whose number of the row's token is a floored quotient of words. -/
theorem causal_word : ∀ (r : Fin 128) (j : Fin 4),
    IntOp.cmpi CmpIPredicate.sle (BitVec.ofNat 32 j.val)
      (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            1#32)
          (IntOp.cmpi CmpIPredicate.ne (IntOp.remsi ArithUnit.vector (BitVec.ofNat 32 r.val) 32#32) 0#32))
        (IntOp.subi (IntOp.divsi ArithUnit.vector (BitVec.ofNat 32 r.val) 32#32) 1#32)
        (IntOp.divsi ArithUnit.vector (BitVec.ofNat 32 r.val) 32#32))
      = BitVec.ofBool (decide (j.val ≤ r.val / 32)) := by
  decide +kernel

section Init

variable {A : Spec.Args} {b : Fin 8} {x0 : Vec Ideal S1x128x512 .bf16} {x1 : Vec Ideal S1x128x64 .bf16}
  {x5 : Vec Ideal S1x4x512 .fp8e4m3} {x6 : Vec Ideal S1x4x4 .f32} {x7 : Vec Ideal S1x4x64 .bf16}
  (hR : Rows A b x0 x1) (hN : New A b x5 x6 x7)

include hN in
/-- The latents of the new tokens. -/
theorem newLatent_at (j : Fin 4) (c : Fin 512) : k0_pay15 x5 x6 (ix2 j c) = A.newLatent b j c := by
  pointwise [k0_pay15]
  exact congrArg₂ (· * ·) (hN.codes j c) (hN.scale j _)

include hR hN

/-- The scores of the new tokens before the causal mask. -/
theorem newRaw_at (r : Fin 128) (j : Fin 4) : newRaw x0 x1 x5 x6 x7 (ix2 r j)
    = (∑ c : Fin 512, A.q b r c * A.newLatent b j c + ∑ c : Fin 64, A.qr b r c * A.newRope (ix3 b j c)) * Spec.Args.smScale := by
  pointwise [newRaw, k0_pay16]
  refine congrArg (· * Spec.Args.smScale) (congrArg₂ (· + ·) ?_ ?_)
  · exact Finset.sum_congr rfl fun c _ => congrArg₂ (· * ·) (hR.q r c) (newLatent_at hN j c)
  · exact Finset.sum_congr rfl fun c _ => congrArg₂ (· * ·) (hR.qr r c) (hN.rope j c)

/-- The scores of the new tokens. -/
theorem newScore_at (r : Fin 128) (j : Fin 4) :
    k0_pay1 (newRaw x0 x1 x5 x6 x7) (iota .tc S128x4 32 [0] iota_S128x4_d0_w32) 32#32 k0_pay17 k0_pay18 1#32 (ix2 r j)
      = A.score b r j.val := by
  pointwise [k0_pay1, k0_pay17, k0_pay18]
  rw [newRaw_at hR hN, mask_eq, A.score_new, Spec.Args.newScore]
  refine (congrArg (fun w => Scalar.select w _ _) (causal_word r j)).trans ?_
  rw [WordCmp.select_ofBool]
  exact if_congr decide_eq_true_iff rfl rfl

/-- The largest score of the new tokens. -/
theorem newTop_at (r : Fin 128) (l : Fin 1) :
    k0_pay2 (newRaw x0 x1 x5 x6 x7) (iota .tc S128x4 32 [0] iota_S128x4_d0_w32) 32#32 k0_pay17 k0_pay18 1#32 (ix2 r l)
      = Online.top (A.score b r) 4 := by
  pointwise [k0_pay2]
  exact (congrArg (fun z => Finset.fold max z _ _) bot_eq).trans
    (Online.fold_max_eq _ (A.score b r) fun j => newScore_at hR hN r j)

/-- The weights of the new tokens. -/
theorem newWeight_at (r : Fin 128) (j : Fin 4) :
    k0_pay3 (newRaw x0 x1 x5 x6 x7) (iota .tc S128x4 32 [0] iota_S128x4_d0_w32) 32#32 k0_pay17 k0_pay18 1#32 (ix2 r j)
      = Ideal.exp (A.score b r j.val - Online.top (A.score b r) 4) := by
  pointwise [k0_pay3]
  exact congrArg Ideal.exp (congrArg₂ (· - ·) (newScore_at hR hN r j) (newTop_at hR hN r 0))

/-- The first step's largest score and sum of weights are those of the new tokens. -/
theorem init_sums : HoldsSums A b 4 (initTop x0 x1 x5 x6 x7) (initSum x0 x1 x5 x6 x7) := by
  constructor
  · intro r l
    pointwise [initTop, k0_pay4]
    exact newTop_at hR hN r 0
  · intro r l
    pointwise [initSum, k0_pay5]
    exact Online.sum_fin_eq _ (fun i => Ideal.exp (A.score b r i - Online.top (A.score b r) 4)) fun j => newWeight_at hR hN r j

/-- The first step's weighted sum is that of the new tokens. -/
theorem init_acc : HoldsAcc A b 4 (initAcc x0 x1 x5 x6 x7) := by
  intro r c
  pointwise [initAcc, k0_pay6]
  refine Online.sum_fin_eq _ (fun i => Ideal.exp (A.score b r i - Online.top (A.score b r) 4) * A.value b c i) fun j => ?_
  rw [A.value_new]
  exact congrArg₂ (· * ·) (newWeight_at hR hN r j) (newLatent_at hN j c)

end Init

end Cert.Step

end

end
-- ==== Proof.StepOut.lean ====
/-
The kernel's running weighted sum as four column blocks, a tile past the batch's length, and the block of the result.
-/
module

public import proofs.«01_k».proof.Proof.StepUpdate
public import proofs.«01_k».proof.Proof.Clamp

@[expose] public section

set_option maxRecDepth 16384

noncomputable section

namespace Cert.Step

open Idealize.ShloMosaic Idealize.ShloMosaic.TcCoe Idealize.SL.Sem Cert.KernelIdeal Cert.KernelIdeal.Gen Cert.RefScores

variable {A : Spec.Args} {b : Fin 8} {n : ℕ}

section Blocks

variable {acc : Vec Ideal S128x512 .f32} (h : HoldsAcc A b n acc)

include h

/-- Column block 0 of the running weighted sum. -/
theorem block0 : HoldsBlock A b n 0 (acc0 acc) := fun r l => (acc0_at acc r l).trans (h r _)

/-- Column block 1 of the running weighted sum. -/
theorem block1 : HoldsBlock A b n 1 (acc1 acc) := fun r l => (acc1_at acc r l).trans (h r _)

/-- Column block 2 of the running weighted sum. -/
theorem block2 : HoldsBlock A b n 2 (acc2 acc) := fun r l => (acc2_at acc r l).trans (h r _)

/-- Column block 3 of the running weighted sum. -/
theorem block3 : HoldsBlock A b n 3 (acc3 acc) := fun r l => (acc3_at acc r l).trans (h r _)

end Blocks

/-- An element of a column block, found from the column in the whole array. -/
theorem HoldsBlock.at {k : Fin 4} {a : Vec Ideal S128x128 .f32} (h : HoldsBlock A b n k a) (x : S128x128.Idx) (r : Fin 128)
    (c : Fin 512) (hr : r.val = (x 0).val) (hc : c.val = 128 * k.val + (x 1).val) :
    a x = Online.vsum (A.score b r) (A.value b c) n := by
  obtain rfl : r = x 0 := Fin.ext hr
  obtain rfl : c = col k (x 1) := Fin.ext hc
  exact (congrArg a (eq_ix2 x)).trans (h _ _)

section Result

variable {sum a0 a1 a2 a3 : Vec Ideal S128x128 .f32} (h0 : HoldsBlock A b n 0 a0) (h1 : HoldsBlock A b n 1 a1)
  (h2 : HoldsBlock A b n 2 a2) (h3 : HoldsBlock A b n 3 a3)

include h0 h1 h2 h3

/-- Four column blocks side by side. -/
theorem sideBySide_holds : HoldsAcc A b n (sideBySide a0 a1 a2 a3) := by
  intro r c
  unfold sideBySide
  canon_tiles x e
  · exact h3.at x r c e0 e1
  · exact h2.at x r c e0 e1
  · exact h1.at x r c e0 e1
  · exact h0.at x r c e0 (e1.trans (Nat.zero_add _).symm)

/-- After the last tile the result's block is the batch's output. -/
theorem result_at (hn : n = 4 + 32768) (hs : ∀ r l, sum (ix2 r l) = Online.wsum (A.score b r) n) (r : Fin 128) (c : Fin 512) :
    result sum a0 a1 a2 a3 (ix3 0 r c) = A.out b r c := by
  have key : ∀ {k : Fin 4} {a : Vec Ideal S128x128 .f32} (_ : HoldsBlock A b n k a) (y l : Fin 128)
      (_ : r.val = y.val) (_ : c.val = 128 * k.val + l.val), a (ix2 y l) * Ideal.div 1 (sum (ix2 y l)) = A.out b r c := by
    intro k a h y l hr hc
    obtain rfl : r = y := Fin.ext hr
    rw [h.at (ix2 r l) r c rfl hc, hs, Spec.Args.out, ← hn]
    exact Online.vsum_mul_inv _ _ _
  unfold result
  canon_tiles x e
  · pointwise [k0_pay14, k0_pay10]
    exact key h3 (x 1) (x 2) e1 e2
  · pointwise [k0_pay13, k0_pay10]
    exact key h2 (x 1) (x 2) e1 e2
  · pointwise [k0_pay12, k0_pay10]
    exact key h1 (x 1) (x 2) e1 e2
  · pointwise [k0_pay11, k0_pay10]
    exact key h0 (x 1) (x 2) e1 (e2.trans (Nat.zero_add _).symm)

end Result

/-- A tile that starts at or past the batch's length leaves every score of its positions masked. -/
theorem masked {t : Fin 32} (h : ¬ (BitVec.ofNat 32 t.val * 1024#32).slt (A.lengths (ix1 b)) = true) (r : Fin 128) (i : ℕ)
    (hi : i < 1024) : A.score b r (4 + 1024 * t.val + i) = ⊥ := by
  rw [add_assoc 4, A.score_cache b r (pos t ⟨i, hi⟩), Spec.Args.cacheScore, if_neg]
  intro hs
  apply h
  have e : BitVec.ofNat 32 t.val * 1024#32 = BitVec.ofNat 32 (t.val * 1024) := (BitVec.ofNat_mul ..).symm
  have ht := t.isLt
  rw [BitVec.slt_iff_toInt_lt, Clamp.toInt_ofNat_small _ (by show 1024 * t.val + i < _; omega)] at hs
  rw [e, BitVec.slt_iff_toInt_lt, Clamp.toInt_ofNat_small _ (by omega)]
  have : (pos t ⟨i, hi⟩).val = 1024 * t.val + i := rfl
  omega

/-- Such a tile changes nothing: the sums of the positions before it are the sums of the positions up to its end. -/
theorem skip_sums {t : Fin 32} (h : ¬ (BitVec.ofNat 32 t.val * 1024#32).slt (A.lengths (ix1 b)) = true)
    {top sum : Vec Ideal S128x128 .f32} (hs : HoldsSums A b (4 + 1024 * t.val) top sum) :
    HoldsSums A b (4 + 1024 * t.val + 1024) top sum :=
  ⟨fun r l => (hs.top r l).trans (Online.top_masked _ _ _ fun i hi => masked h r i hi).symm,
   fun r l => (hs.sum r l).trans (Online.wsum_masked _ _ _ fun i hi => masked h r i hi).symm⟩

/-- The same for the weighted sum. -/
theorem skip_acc {t : Fin 32} (h : ¬ (BitVec.ofNat 32 t.val * 1024#32).slt (A.lengths (ix1 b)) = true)
    {acc : Vec Ideal S128x512 .f32} (hs : HoldsAcc A b (4 + 1024 * t.val) acc) : HoldsAcc A b (4 + 1024 * t.val + 1024) acc :=
  fun r c => (hs r c).trans (Online.vsum_masked _ _ _ _ fun i hi => masked h r i hi).symm

end Cert.Step

end

end
-- ==== Proof.Blocks.lean ====
/-
The kernel's blocks as parts of its arguments: the block of each window at a grid point, in coordinates.
-/
module

public import proofs.«01_k».proof.Proof.StepCases
public import proofs.«01_k».proof.Proof.StepInit
public import proofs.«01_k».proof.Proof.StepOut
public import proofs.«01_k».proof.Proof.Table

@[expose] public section

set_option maxRecDepth 16384

noncomputable section

namespace Cert.KernelValue

open Idealize.ShloMosaic Idealize.ShloMosaic.TcCoe Idealize.SL.Sem Cert.KernelIdeal Cert.KernelIdeal.Gen Cert.RefScores

variable (m : (ℓ : Loc nD τ sig) → Buf (Elt Ideal) ℓ) (hO : Ok m) (c : Dev nD)

/-- The kernel's arguments as the arguments of the common mathematics. -/
def args : Cert.Spec.Args where
  x := m ((c.tc : Thread nD τ).loc main_arg0)
  qRope := m ((c.tc : Thread nD τ).loc main_arg1)
  codes := m ((c.tc : Thread nD τ).loc main_arg2)
  scale := m ((c.tc : Thread nD τ).loc main_arg3)
  kRope := m ((c.tc : Thread nD τ).loc main_arg4)
  lengths := m ((c.tc : Thread nD τ).loc main_arg5)
  newCodes := m ((c.tc : Thread nD τ).loc main_arg6)
  newScale := m ((c.tc : Thread nD τ).loc main_arg7)
  newRope := m ((c.tc : Thread nD τ).loc main_arg8)

/-- The batch of a grid point. -/
def batch (t : Fin (cfgM m hO).N) : Fin 8 := ⟨t.val / 32, by have := t.isLt; have : (cfgM m hO).N = 256 := N_0; omega⟩

/-- The tile of a grid point. -/
def tileOf (t : Fin (cfgM m hO).N) : Fin 32 := ⟨t.val % 32, Nat.mod_lt _ (by decide)⟩

/-- The first grid coordinate of a point is its batch. -/
theorem coords0 (t : Fin (cfgM m hO).N) : (grid0.coords t 0).val = t.val / 32 := by
  have e0 : (grid0.coords t 0).val = t.val / 32 % 8 := Pipeline.Grid.coords_val (G := grid0) t 0 (by decide) rfl
  have ht := t.isLt
  have hN : (cfgM m hO).N = 256 := N_0
  omega

/-- The second grid coordinate of a point is its tile. -/
theorem coords1 (t : Fin (cfgM m hO).N) : (grid0.coords t 1).val = t.val % 32 := by
  have e1 : (grid0.coords t 1).val = t.val / 1 % 32 := Pipeline.Grid.coords_val (G := grid0) t 1 (by decide) rfl
  omega

/-- The first grid coordinate, as a 32-bit word, is the batch. -/
theorem word0 (t : Fin (cfgM m hO).N) : (BitVec.ofNat 32 (grid0.coords t 0).val).toNat = t.val / 32 := by
  rw [BitVec.toNat_ofNat, coords0]
  have ht := t.isLt
  have hN : (cfgM m hO).N = 256 := N_0
  omega

/-! The index maps at a grid point, axis by axis. -/

/-- The block's index along the batches, and zero along the other two axes. -/
def AtBatch {n : ℕ} (f : Fin 3 → ℕ) (t : Fin n) : Prop := f 0 = t.val / 32 ∧ f 1 = 0 ∧ f 2 = 0

/-- The queries' block at a point is its batch's. -/
theorem index0 (t : Fin (cfgM m hO).N) : AtBatch ((pcfg0.win (adm m hO) 0).index t) t := ⟨word0 m hO t, rfl, rfl⟩
/-- The queries' rope block at a point is its batch's. -/
theorem index1 (t : Fin (cfgM m hO).N) : AtBatch ((pcfg0.win (adm m hO) 1).index t) t := ⟨word0 m hO t, rfl, rfl⟩
/-- The new tokens' codes at a point are its batch's. -/
theorem index5 (t : Fin (cfgM m hO).N) : AtBatch ((pcfg0.win (adm m hO) 5).index t) t := ⟨word0 m hO t, rfl, rfl⟩
/-- The new tokens' scales at a point are its batch's. -/
theorem index6 (t : Fin (cfgM m hO).N) : AtBatch ((pcfg0.win (adm m hO) 6).index t) t := ⟨word0 m hO t, rfl, rfl⟩
/-- The new tokens' rope keys at a point are its batch's. -/
theorem index7 (t : Fin (cfgM m hO).N) : AtBatch ((pcfg0.win (adm m hO) 7).index t) t := ⟨word0 m hO t, rfl, rfl⟩
/-- The output block of a point is its batch's. -/
theorem index8 (t : Fin (cfgM m hO).N) : AtBatch ((pcfg0.win (adm m hO) 8).index t) t := ⟨word0 m hO t, rfl, rfl⟩

/-- In block zero of an axis a position is its offset. -/
theorem at_zero {x n j : ℕ} (h : x = 0) : x * n + j = j := by rw [h, Nat.zero_mul, Nat.zero_add]

/-- In tile `t` of an axis a position is `1024 t` plus its offset. -/
theorem at_tile {x t j : ℕ} (h : x = t) : x * 1024 + j = 1024 * t + j := by rw [h, Nat.mul_comm]

/-! The arrays the host lines before the kernel make, read at an index. -/

/-- The queries, with a row for each token and head. -/
theorem v0_at (b : Fin 8) (r : Fin 128) (k : Fin 512) : V m c main_v0 (ix3 b r k) = (args m c).q b r k := by
  entry_read
  pointwise
  rfl

/-- The queries' rope part, with a row for each token and head. -/
theorem v1_at (b : Fin 8) (r : Fin 128) (k : Fin 64) : V m c main_v1 (ix3 b r k) = (args m c).qr b r k := by
  entry_read
  pointwise
  rfl

/-- The cache's scales, with positions last. -/
theorem v2_at (b : Fin 8) (k : Fin 4) (p : Fin 32768) : V m c main_v2 (ix3 b k p) = (args m c).scale (ix3 b p k) := by
  entry_read
  pointwise
  rfl

/-- The cache's rope keys, with positions last. -/
theorem v3_at (b : Fin 8) (k : Fin 64) (p : Fin 32768) : V m c main_v3 (ix3 b k p) = (args m c).kRope (ix3 b p k) := by
  entry_read
  pointwise
  rfl

/-! The blocks of the queries and of the new tokens, at every grid point. -/

/-- An element of the block of queries. -/
theorem q_at (t : Fin (cfgM m hO).N) (j : Fin 128) (k : Fin 512) :
    iblk m hO c 0 t (ix3 0 j k) = (args m c).q (batch m hO t) j k := by
  obtain ⟨e0, e1, e2⟩ := index0 m hO t
  rw [← v0_at]
  blk_ext! [iblk, batch]
  · exact (Nat.add_zero _).trans e0
  · exact at_zero e1
  · exact at_zero e2

/-- An element of the block of the queries' rope part. -/
theorem qr_at (t : Fin (cfgM m hO).N) (j : Fin 128) (k : Fin 64) :
    iblk m hO c 1 t (ix3 0 j k) = (args m c).qr (batch m hO t) j k := by
  obtain ⟨e0, e1, e2⟩ := index1 m hO t
  rw [← v1_at]
  blk_ext! [iblk, batch]
  · exact (Nat.add_zero _).trans e0
  · exact at_zero e1
  · exact at_zero e2

/-- An element of the block of the new tokens' codes. -/
theorem newCodes_at (t : Fin (cfgM m hO).N) (j : Fin 4) (k : Fin 512) :
    iblk m hO c 5 t (ix3 0 j k) = (args m c).newCodes (ix3 (batch m hO t) j k) := by
  obtain ⟨e0, e1, e2⟩ := index5 m hO t
  unfold args
  blk_ext! [iblk, V, batch]
  · exact (Nat.add_zero _).trans e0
  · exact at_zero e1
  · exact at_zero e2

/-- An element of the block of the new tokens' scales. -/
theorem newScale_at (t : Fin (cfgM m hO).N) (j : Fin 4) (k : Fin 4) :
    iblk m hO c 6 t (ix3 0 j k) = (args m c).newScale (ix3 (batch m hO t) j k) := by
  obtain ⟨e0, e1, e2⟩ := index6 m hO t
  unfold args
  blk_ext! [iblk, V, batch]
  · exact (Nat.add_zero _).trans e0
  · exact at_zero e1
  · exact at_zero e2

/-- An element of the block of the new tokens' rope keys. -/
theorem newRope_at (t : Fin (cfgM m hO).N) (j : Fin 4) (k : Fin 64) :
    iblk m hO c 7 t (ix3 0 j k) = (args m c).newRope (ix3 (batch m hO t) j k) := by
  obtain ⟨e0, e1, e2⟩ := index7 m hO t
  unfold args
  blk_ext! [iblk, V, batch]
  · exact (Nat.add_zero _).trans e0
  · exact at_zero e1
  · exact at_zero e2

/-- The two query blocks hold the batch's queries. -/
theorem rows (t : Fin (cfgM m hO).N) : Step.Rows (args m c) (batch m hO t) (iblk m hO c 0 t) (iblk m hO c 1 t) :=
  ⟨q_at m hO c t, qr_at m hO c t⟩

/-- The three blocks of the new tokens hold the batch's new tokens. -/
theorem newTokens (t : Fin (cfgM m hO).N) :
    Step.New (args m c) (batch m hO t) (iblk m hO c 5 t) (iblk m hO c 6 t) (iblk m hO c 7 t) :=
  ⟨newCodes_at m hO c t, newScale_at m hO c t, newRope_at m hO c t⟩

/-- The table holds the batches' lengths. -/
theorem table_at (t : Fin (cfgM m hO).N) (x : S8.Idx) (h : (x 0).val = (Scalar.indexCast (BitVec.ofNat 32 (grid0.coords t 0).val)).toNat) :
    tbl m 0 x = (args m c).lengths (ix1 (batch m hO t)) := by
  obtain rfl : c = 0 := Subsingleton.elim _ _
  have e : tbl m 0 = m (((0 : Dev nD).tc : Thread nD τ).loc main_arg5) := V_main_arg5 m 0
  rw [e]
  refine congrArg (m (((0 : Dev nD).tc : Thread nD τ).loc main_arg5)) (funext fun a => ?_)
  obtain rfl : a = 0 := Subsingleton.elim _ _
  have hw : ∀ n : Fin 8, (Scalar.indexCast (BitVec.ofNat 32 n.val)).toNat = n.val := by decide
  exact Fin.ext (h.trans ((hw (grid0.coords t 0)).trans (coords0 m hO t)))

/-- The batch's length, as the kernel's index maps read it out of the table. -/
theorem length_map (t : Fin (cfgM m hO).N) :
    Table.lengthIdeal (tbl m) (grid0.coords t) = (args m c).lengths (ix1 (batch m hO t)) :=
  table_at m hO c t _ (by
    show _ + 1 * 0 = _
    rfl)

/-- The batch's length, as the kernel's body reads it out of the table. -/
theorem length_body (t : Fin (cfgM m hO).N) :
    Step.lengthAt (c := c) (grid0.coords t) (tbl m 0) = (args m c).lengths (ix1 (batch m hO t)) :=
  table_at m hO c t _ (by
    show _ + 1 * 0 = _
    rfl)

/-- The point's tile holds a position before the batch's length, and the length can be rounded up to whole tiles. -/
def Active (t : Fin (cfgM m hO).N) : Prop :=
  ((args m c).lengths (ix1 (batch m hO t))).sle 2147482624#32 = true
    ∧ (BitVec.ofNat 32 (tileOf m hO t).val * 1024#32).slt ((args m c).lengths (ix1 (batch m hO t))) = true

/-- At such a point the index maps' clamped tile is the point's own. -/
theorem clamp_eq (t : Fin (cfgM m hO).N) (ht : Active m hO c t) :
    Clamp.tile (Table.lengthIdeal (tbl m) (grid0.coords t)) (grid0.coords t 1).val = (tileOf m hO t).val := by
  rw [length_map m hO c, coords1]
  exact Clamp.tile_eq _ _ (tileOf m hO t).isLt ht.1 ht.2

/-- A block index given by three numbers, axis by axis. -/
theorem axes {x y z : ℕ} {f : Fin 3 → ℕ} (e : f = ![x, y, z]) : f 0 = x ∧ f 1 = y ∧ f 2 = z := by
  subst e
  exact ⟨rfl, rfl, rfl⟩

/-- At an active tile the block of the codes is the tile of the batch. -/
theorem index2 (t : Fin (cfgM m hO).N) (ht : Active m hO c t) : (pcfg0.win (adm m hO) 2).index t 0 = t.val / 32
    ∧ (pcfg0.win (adm m hO) 2).index t 1 = (tileOf m hO t).val ∧ (pcfg0.win (adm m hO) 2).index t 2 = 0 := by
  rw [← clamp_eq m hO c t ht, ← word0 m hO t]
  exact axes (Table.mapIdeal_2 (tbl m) (grid0.coords t))

/-- At an active tile the block of the scales is the tile of the batch. -/
theorem index3 (t : Fin (cfgM m hO).N) (ht : Active m hO c t) : (pcfg0.win (adm m hO) 3).index t 0 = t.val / 32
    ∧ (pcfg0.win (adm m hO) 3).index t 1 = 0 ∧ (pcfg0.win (adm m hO) 3).index t 2 = (tileOf m hO t).val := by
  rw [← clamp_eq m hO c t ht, ← word0 m hO t]
  exact axes (Table.mapIdeal_3 (tbl m) (grid0.coords t))

/-- At an active tile the block of the rope keys is the tile of the batch. -/
theorem index4 (t : Fin (cfgM m hO).N) (ht : Active m hO c t) : (pcfg0.win (adm m hO) 4).index t 0 = t.val / 32
    ∧ (pcfg0.win (adm m hO) 4).index t 1 = 0 ∧ (pcfg0.win (adm m hO) 4).index t 2 = (tileOf m hO t).val := by
  rw [← clamp_eq m hO c t ht, ← word0 m hO t]
  exact axes (Table.mapIdeal_4 (tbl m) (grid0.coords t))

/-! The blocks of the cache, at a point whose tile is active. -/

/-- An element of the block of codes. -/
theorem codes_at (t : Fin (cfgM m hO).N) (ht : Active m hO c t) (p : Fin 1024) (k : Fin 512) :
    iblk m hO c 2 t (ix3 0 p k) = (args m c).codes (ix3 (batch m hO t) (Step.pos (tileOf m hO t) p) k) := by
  obtain ⟨e0, e1, e2⟩ := index2 m hO c t ht
  unfold args
  blk_ext! [iblk, V, batch]
  · exact (Nat.add_zero _).trans e0
  · exact at_tile e1
  · exact at_zero e2

/-- An element of the block of scales. -/
theorem scale_at (t : Fin (cfgM m hO).N) (ht : Active m hO c t) (k : Fin 4) (p : Fin 1024) :
    iblk m hO c 3 t (ix3 0 k p) = (args m c).scale (ix3 (batch m hO t) (Step.pos (tileOf m hO t) p) k) := by
  obtain ⟨e0, e1, e2⟩ := index3 m hO c t ht
  rw [← v2_at]
  blk_ext! [iblk, batch]
  · exact (Nat.add_zero _).trans e0
  · exact at_zero e1
  · exact at_tile e2

/-- An element of the block of rope keys. -/
theorem rope_at (t : Fin (cfgM m hO).N) (ht : Active m hO c t) (k : Fin 64) (p : Fin 1024) :
    iblk m hO c 4 t (ix3 0 k p) = (args m c).kRope (ix3 (batch m hO t) (Step.pos (tileOf m hO t) p) k) := by
  obtain ⟨e0, e1, e2⟩ := index4 m hO c t ht
  rw [← v3_at]
  blk_ext! [iblk, batch]
  · exact (Nat.add_zero _).trans e0
  · exact at_zero e1
  · exact at_tile e2

/-- The three cache blocks hold the tile of the batch's cache. -/
theorem tile (t : Fin (cfgM m hO).N) (ht : Active m hO c t) :
    Step.Tile (args m c) (batch m hO t) (tileOf m hO t) (iblk m hO c 2 t) (iblk m hO c 3 t) (iblk m hO c 4 t) :=
  ⟨codes_at m hO c t ht, scale_at m hO c t ht, rope_at m hO c t ht⟩

end Cert.KernelValue

end

end
-- ==== Proof.State.lean ====
/-
What the kernel's running arrays hold after every grid point: the online softmax of the positions read so far in the point's
batch.  By induction over the points: the first tile of a batch starts over from the new tokens, every tile that holds a
position before the batch's length takes one step, and the others change nothing because their positions are masked.
-/
module

public import proofs.«01_k».proof.Proof.Blocks

@[expose] public section

set_option maxRecDepth 16384

noncomputable section

namespace Cert.KernelValue

open Idealize.ShloMosaic Idealize.ShloMosaic.TcCoe Idealize.SL.Sem Cert.KernelIdeal Cert.KernelIdeal.Gen Cert.RefScores

variable (m : (ℓ : Loc nD τ sig) → Buf (Elt Ideal) ℓ) (hO : Ok m) (c : Dev nD)

/-- The body's test of a tile says whether the tile starts before the length. -/
theorem cond_iff (i : grid0.Coords) (len : BitVec 32) :
    cond0_1 i len ↔ (BitVec.ofNat 32 (i 1).val * 1024#32).slt len = true := by
  have key : ∀ w : Bool, (Scalar.cmpi .ne (Scalar.extui (BitVec.ofBool w) : BitVec 32) 0#32 = 1#1) ↔ w = true := by decide
  exact key _

/-- The three running arrays of a point hold the online softmax of the first `n` positions. -/
def Holds (b : Fin 8) (n : ℕ) (o : Step.Arrays) : Prop :=
  Step.HoldsSums (args m c) b n o.2.1 o.2.2.1 ∧ Step.HoldsAcc (args m c) b n o.2.2.2

/-- `Holds` of arrays known by equations. -/
theorem Holds.of {b : Fin 8} {n : ℕ} {o : Step.Arrays} {top sum : Vec Ideal S128x128 .f32} {acc : Vec Ideal S128x512 .f32}
    (e0 : o.2.1 = top) (e1 : o.2.2.1 = sum) (e2 : o.2.2.2 = acc)
    (hs : Step.HoldsSums (args m c) b n top sum) (ha : Step.HoldsAcc (args m c) b n acc) : Holds m c b n o := by
  subst e0 e1 e2
  exact ⟨hs, ha⟩

section Point

variable (t : Fin (cfgM m hO).N)
  (hL : ((args m c).lengths (ix1 (batch m hO t))).sle 2147482624#32 = true)

/-- The word the body multiplies by the tile's length. -/
theorem tile_word : BitVec.ofNat 32 (grid0.coords t 1).val = BitVec.ofNat 32 (tileOf m hO t).val := by
  rw [coords1]; rfl

include hL in
/-- A tile the body works on is active. -/
theorem active_of (h1 : cond0_1 (grid0.coords t) (Step.lengthAt (c := c) (grid0.coords t) (tbl m 0))) : Active m hO c t := by
  refine ⟨hL, ?_⟩
  rw [cond_iff, tile_word, length_body m hO c t] at h1
  exact h1

/-- A tile the body skips starts at or past the length. -/
theorem skipped_of (h1 : ¬ cond0_1 (grid0.coords t) (Step.lengthAt (c := c) (grid0.coords t) (tbl m 0))) :
    ¬ (BitVec.ofNat 32 (tileOf m hO t).val * 1024#32).slt ((args m c).lengths (ix1 (batch m hO t))) = true := by
  rw [cond_iff, tile_word, length_body m hO c t] at h1
  exact h1

variable {top sum : Vec Ideal S128x128 .f32} {acc : Vec Ideal S128x512 .f32}
  (hs : Step.HoldsSums (args m c) (batch m hO t) (4 + 1024 * (tileOf m hO t).val) top sum)
  (ha : Step.HoldsAcc (args m c) (batch m hO t) (4 + 1024 * (tileOf m hO t).val) acc)

include hs

/-- One step at an active point: the largest score and the sum of weights. -/
theorem step_sums (hA : Active m hO c t) :
    Step.HoldsSums (args m c) (batch m hO t) (4 + 1024 * (tileOf m hO t).val + 1024)
      (Step.stepTop (BitVec.ofNat 32 (grid0.coords t 1).val) (Step.lengthAt (c := c) (grid0.coords t) (tbl m 0))
        (iblk m hO c 0 t) (iblk m hO c 1 t) (iblk m hO c 2 t) (iblk m hO c 3 t) (iblk m hO c 4 t) top)
      (Step.stepSum (BitVec.ofNat 32 (grid0.coords t 1).val) (Step.lengthAt (c := c) (grid0.coords t) (tbl m 0))
        (iblk m hO c 0 t) (iblk m hO c 1 t) (iblk m hO c 2 t) (iblk m hO c 3 t) (iblk m hO c 4 t) top sum) := by
  rw [tile_word, length_body m hO c t]
  exact Step.step_sums (rows m hO c t) (tile m hO c t hA) hs

include ha

/-- One step at an active point: the four column blocks of the weighted sum. -/
theorem step_blocks (hA : Active m hO c t) :
    Step.HoldsBlock (args m c) (batch m hO t) (4 + 1024 * (tileOf m hO t).val + 1024) 0
      (Step.stepAcc0 (BitVec.ofNat 32 (grid0.coords t 1).val) (Step.lengthAt (c := c) (grid0.coords t) (tbl m 0))
        (iblk m hO c 0 t) (iblk m hO c 1 t) (iblk m hO c 2 t) (iblk m hO c 3 t) (iblk m hO c 4 t) top acc)
    ∧ Step.HoldsBlock (args m c) (batch m hO t) (4 + 1024 * (tileOf m hO t).val + 1024) 1
      (Step.stepAcc1 (BitVec.ofNat 32 (grid0.coords t 1).val) (Step.lengthAt (c := c) (grid0.coords t) (tbl m 0))
        (iblk m hO c 0 t) (iblk m hO c 1 t) (iblk m hO c 2 t) (iblk m hO c 3 t) (iblk m hO c 4 t) top acc)
    ∧ Step.HoldsBlock (args m c) (batch m hO t) (4 + 1024 * (tileOf m hO t).val + 1024) 2
      (Step.stepAcc2 (BitVec.ofNat 32 (grid0.coords t 1).val) (Step.lengthAt (c := c) (grid0.coords t) (tbl m 0))
        (iblk m hO c 0 t) (iblk m hO c 1 t) (iblk m hO c 2 t) (iblk m hO c 3 t) (iblk m hO c 4 t) top acc)
    ∧ Step.HoldsBlock (args m c) (batch m hO t) (4 + 1024 * (tileOf m hO t).val + 1024) 3
      (Step.stepAcc3 (BitVec.ofNat 32 (grid0.coords t 1).val) (Step.lengthAt (c := c) (grid0.coords t) (tbl m 0))
        (iblk m hO c 0 t) (iblk m hO c 1 t) (iblk m hO c 2 t) (iblk m hO c 3 t) (iblk m hO c 4 t) top acc) := by
  rw [tile_word, length_body m hO c t]
  have hR := rows m hO c t
  have hT := tile m hO c t hA
  exact ⟨Step.step_acc0 hR hT hs.top ha, Step.step_acc1 hR hT hs.top ha, Step.step_acc2 hR hT hs.top ha, Step.step_acc3 hR hT hs.top ha⟩

/-- One step at an active point: the weighted sum. -/
theorem step_acc (hA : Active m hO c t) :
    Step.HoldsAcc (args m c) (batch m hO t) (4 + 1024 * (tileOf m hO t).val + 1024)
      (Step.stepAcc (BitVec.ofNat 32 (grid0.coords t 1).val) (Step.lengthAt (c := c) (grid0.coords t) (tbl m 0))
        (iblk m hO c 0 t) (iblk m hO c 1 t) (iblk m hO c 2 t) (iblk m hO c 3 t) (iblk m hO c 4 t) top acc) :=
  have ⟨b0, b1, b2, b3⟩ := step_blocks m hO c t hs ha hA
  Step.sideBySide_holds b0 b1 b2 b3

end Point

/-- At a batch's first point the new tokens' sums are those of the positions before its tile. -/
theorem first_sums (t : Fin (cfgM m hO).N) (h0 : t.val % 32 = 0) :
    Step.HoldsSums (args m c) (batch m hO t) (4 + 1024 * (tileOf m hO t).val)
      (Step.initTop (iblk m hO c 0 t) (iblk m hO c 1 t) (iblk m hO c 5 t) (iblk m hO c 6 t) (iblk m hO c 7 t))
      (Step.initSum (iblk m hO c 0 t) (iblk m hO c 1 t) (iblk m hO c 5 t) (iblk m hO c 6 t) (iblk m hO c 7 t)) := by
  rw [show (tileOf m hO t).val = 0 from h0]
  exact Step.init_sums (rows m hO c t) (newTokens m hO c t)

/-- The same for the weighted sum. -/
theorem first_acc (t : Fin (cfgM m hO).N) (h0 : t.val % 32 = 0) :
    Step.HoldsAcc (args m c) (batch m hO t) (4 + 1024 * (tileOf m hO t).val)
      (Step.initAcc (iblk m hO c 0 t) (iblk m hO c 1 t) (iblk m hO c 5 t) (iblk m hO c 6 t) (iblk m hO c 7 t)) := by
  rw [show (tileOf m hO t).val = 0 from h0]
  exact Step.init_acc (rows m hO c t) (newTokens m hO c t)

/-- The point before, in the same batch. -/
abbrev before (t : Fin (cfgM m hO).N) : Fin (cfgM m hO).N := ⟨t.val - 1, lt_of_le_of_lt (Nat.sub_le _ _) t.isLt⟩

/-- The point before is of the same batch, unless the point is its batch's first. -/
theorem before_batch (t : Fin (cfgM m hO).N) (h0 : ¬ t.val % 32 = 0) : batch m hO (before m hO t) = batch m hO t :=
  Fin.ext (by show (t.val - 1) / 32 = t.val / 32; omega)

/-- The point before has read one tile less. -/
theorem before_count (t : Fin (cfgM m hO).N) (h0 : ¬ t.val % 32 = 0) :
    4 + 1024 * (tileOf m hO (before m hO t)).val + 1024 = 4 + 1024 * (tileOf m hO t).val := by
  show 4 + 1024 * ((t.val - 1) % 32) + 1024 = 4 + 1024 * (t.val % 32)
  omega

section Induction

variable (hL : ∀ b, ((args m c).lengths (ix1 b)).sle 2147482624#32 = true)

include hL

/-- One point, given the point before (where it is not a batch's first). -/
theorem holds_step (t : Fin (cfgM m hO).N)
    (ih : ¬ t.val % 32 = 0 → Holds m c (batch m hO t) (4 + 1024 * (tileOf m hO t).val)
      (outsAt0 m hO c (before m hO t).val (before m hO t).isLt)) :
    Holds m c (batch m hO t) (4 + 1024 * (tileOf m hO t).val + 1024) (outsAt0 m hO c t.val t.isLt) := by
  by_cases h1 : cond0_1 (grid0.coords t) (Step.lengthAt (c := c) (grid0.coords t) (tbl m 0))
  · have hA := active_of m hO c t (hL _) h1
    by_cases h0 : t.val % 32 = 0
    · have hs := first_sums m hO c t h0
      have ha := first_acc m hO c t h0
      obtain ⟨e0, e1, e2⟩ := Step.case_A (outsAt0_A m hO c t h0 h1 (by omega))
      exact Holds.of m c e0 e1 e2 (step_sums m hO c t hs hA) (step_acc m hO c t hs ha hA)
    · obtain ⟨hs, ha⟩ := ih h0
      by_cases h2 : t.val % 32 = 31
      · obtain ⟨e0, e1, e2, -⟩ := Step.case_E (outsAt0_E m hO c t h0 h1 h2)
        exact Holds.of m c e0 e1 e2 (step_sums m hO c t hs hA) (step_acc m hO c t hs ha hA)
      · obtain ⟨e0, e1, e2⟩ := Step.case_C (outsAt0_C m hO c t h0 h1 h2)
        exact Holds.of m c e0 e1 e2 (step_sums m hO c t hs hA) (step_acc m hO c t hs ha hA)
  · have hA := skipped_of m hO c t h1
    by_cases h0 : t.val % 32 = 0
    · have hs := first_sums m hO c t h0
      have ha := first_acc m hO c t h0
      obtain ⟨e0, e1, e2⟩ := Step.case_B (outsAt0_B m hO c t h0 h1 (by omega))
      exact Holds.of m c e0 e1 e2 (Step.skip_sums hA hs) (Step.skip_acc hA ha)
    · obtain ⟨hs, ha⟩ := ih h0
      by_cases h2 : t.val % 32 = 31
      · obtain ⟨e0, e1, e2, -⟩ := Step.case_F (outsAt0_F m hO c t h0 h1 h2)
        exact Holds.of m c e0 e1 e2 (Step.skip_sums hA hs) (Step.skip_acc hA ha)
      · obtain ⟨e0, e1, e2⟩ := Step.case_D (outsAt0_D m hO c t h0 h1 h2)
        exact Holds.of m c e0 e1 e2 (Step.skip_sums hA hs) (Step.skip_acc hA ha)

/-- After every point the running arrays hold the online softmax of the batch's positions up to the point's tile. -/
theorem holds (t : Fin (cfgM m hO).N) :
    Holds m c (batch m hO t) (4 + 1024 * (tileOf m hO t).val + 1024) (outsAt0 m hO c t.val t.isLt) := by
  obtain ⟨n, hn⟩ := t
  induction n with
  | zero => exact holds_step m hO c hL ⟨0, hn⟩ fun h => absurd rfl h
  | succ n ih =>
    refine holds_step m hO c hL ⟨n + 1, hn⟩ fun h => ?_
    rw [← before_batch m hO ⟨n + 1, hn⟩ h, ← before_count m hO ⟨n + 1, hn⟩ h]
    exact ih _

/-- The result's block after a batch's last point is the batch's output. -/
theorem block_out (t : Fin (cfgM m hO).N) (h2 : t.val % 32 = 31) (r : Fin 128) (k : Fin 512) :
    (outsAt0 m hO c t.val t.isLt).1 (ix3 0 r k) = (args m c).out (batch m hO t) r k := by
  have h0 : ¬ t.val % 32 = 0 := by omega
  have hp := holds m hO c hL (before m hO t)
  rw [before_batch m hO t h0, before_count m hO t h0] at hp
  obtain ⟨hs, ha⟩ := hp
  have hn : 4 + 1024 * (tileOf m hO t).val + 1024 = 4 + 32768 := by
    show 4 + 1024 * (t.val % 32) + 1024 = 4 + 32768
    omega
  by_cases h1 : cond0_1 (grid0.coords t) (Step.lengthAt (c := c) (grid0.coords t) (tbl m 0))
  · have hA := active_of m hO c t (hL _) h1
    have ⟨b0, b1, b2, b3⟩ := step_blocks m hO c t hs ha hA
    obtain ⟨-, -, -, e⟩ := Step.case_E (outsAt0_E m hO c t h0 h1 h2)
    exact (congrFun e (ix3 0 r k)).trans (Step.result_at b0 b1 b2 b3 hn (step_sums m hO c t hs hA).sum r k)
  · have hA := skipped_of m hO c t h1
    have hs' := Step.skip_sums hA hs
    have ha' := Step.skip_acc hA ha
    obtain ⟨-, -, -, e⟩ := Step.case_F (outsAt0_F m hO c t h0 h1 h2)
    exact (congrFun e (ix3 0 r k)).trans
      (Step.result_at (Step.block0 ha') (Step.block1 ha') (Step.block2 ha') (Step.block3 ha') hn hs'.sum r k)

end Induction

end Cert.KernelValue

end

end
-- ==== Proof.KernelRun.lean ====
/-
The kernel's run: it ends with the softmax's output in its result and its arguments unchanged, when every batch's length can be
rounded up to whole tiles.
-/
module

public import proofs.«01_k».proof.Proof.State
public import Idealize.ShloMosaic.Lib.Pipeline.Covers

@[expose] public section

set_option maxRecDepth 16384

noncomputable section

namespace Cert.KernelValue

open Idealize.ShloMosaic Idealize.ShloMosaic.TcCoe Idealize.SL.Sem Cert.KernelIdeal Cert.KernelIdeal.Gen Cert.RefScores

variable (m : (ℓ : Loc nD τ sig) → Buf (Elt Ideal) ℓ) (hO : Ok m) (c : Dev nD)

/-- The output array the common mathematics gives. -/
def outArray : Vec Ideal S8x128x512 .bf16 :=
  fun i => (args m c).out ⟨(i 0).val, (i 0).isLt⟩ ⟨(i 1).val, (i 1).isLt⟩ ⟨(i 2).val, (i 2).isLt⟩

/-- The last points of the batches write the whole result. -/
theorem covers : ((cfgM m hO).win 8).Covers := by
  have key : ∀ β : (a : Fin 3) → Fin ((S8x128x512.size a + S1x128x512.size a - 1) / S1x128x512.size a),
      ∃ t : Fin (cfgM m hO).N, ∀ a : Fin 3, (pcfg0.win (adm m hO) 8).index t a = (β a).val := by
    intro β
    have h0 : (β 0).val < 8 := (β 0).isLt
    have h1 : (β 1).val < 1 := (β 1).isLt
    have h2 : (β 2).val < 1 := (β 2).isLt
    have ht : 32 * (β 0).val < (cfgM m hO).N := lt_of_lt_of_eq (show 32 * (β 0).val < 256 by omega) N_0.symm
    obtain ⟨e0, e1, e2⟩ := index8 m hO ⟨32 * (β 0).val, ht⟩
    refine ⟨⟨32 * (β 0).val, ht⟩, fun a => ?_⟩
    match a with
    | ⟨0, _⟩ => exact e0.trans (show 32 * (β 0).val / 32 = (β 0).val by omega)
    | ⟨1, _⟩ => exact e1.trans (show 0 = (β 1).val by omega)
    | ⟨2, _⟩ => exact e2.trans (show 0 = (β 2).val by omega)
  exact ((cfgM m hO).win 8).covers_of_index_surj rfl (show ∀ a : Fin 3, 0 < S1x128x512.size a by decide) key

/-- The result after the run. -/
theorem result_eq (hL : ∀ b, ((args m c).lengths (ix1 b)).sle 2147482624#32 = true) :
    (dats m hO 0 c).arrAt 8 (cfgM m hO).N = outArray m c := by
  refine (dats m hO 0 c).arrAt_eq_of_covers 8 _ (covers m hO) fun t hf y => ?_
  have h2 : t.val % 32 = 31 := (flush0_8 (adm m hO) t).mp hf
  obtain ⟨e0, e1, e2⟩ := index8 m hO t
  have key : ∀ (y : S1x128x512.Idx) (z : S8x128x512.Idx) (_ : (z 0).val = t.val / 32) (_ : (z 1).val = (y 1).val)
      (_ : (z 2).val = (y 2).val), (outsAt0 m hO c t.val t.isLt).1 y = outArray m c z := by
    intro y z z0 z1 z2
    have e : y = ix3 0 (y 1) (y 2) := (eq_ix3 y).trans (congrArg (ix3 · (y 1) (y 2)) (Subsingleton.elim (α := Fin 1) _ _))
    rw [e]
    refine (block_out m hO c hL t h2 (y 1) (y 2)).trans ?_
    have a0 : batch m hO t = ⟨(z 0).val, (z 0).isLt⟩ := Fin.ext z0.symm
    have a1 : y 1 = ⟨(z 1).val, (z 1).isLt⟩ := Fin.ext z1.symm
    have a2 : y 2 = ⟨(z 2).val, (z 2).isLt⟩ := Fin.ext z2.symm
    rw [a0, a1, a2]
    rfl
  blk_simp
  rw [after0_8]
  refine key y _ ?_ ?_ ?_
  all_goals blk_simp
  · exact (Nat.add_zero _).trans e0
  · exact at_zero e1
  · exact at_zero e2

/-- The kernel's run: it ends with the softmax's output in its result and its arguments unchanged. -/
theorem run_out (ρ : Dev nD → PrngReg) (hL : ∀ c b, ((args m c).lengths (ix1 b)).sle 2147482624#32 = true) :
    θ_run defs (onTc (τ := τ) (main (F := Ideal))) ⟨m, fun _ => 0, ρ⟩ fun r => ∀ c : Dev nD,
      r.2.mem ((c.tc : Thread nD τ).loc main_v4) = outArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have hO : Ok m := Table.okIdeal _
  exact (θ_run defs _ _).mono (fun _ h c => ⟨((h c).1 8).trans (result_eq m hO c (hL c)),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 5).trans (((dats m hO 0 c).arrAt_in 5 rfl _).trans ((A_eq m hO c 5).trans (V_main_arg6 m c))),
      ((h c).1 6).trans (((dats m hO 0 c).arrAt_in 6 rfl _).trans ((A_eq m hO c 6).trans (V_main_arg7 m c))),
      ((h c).1 7).trans (((dats m hO 0 c).arrAt_in 7 rfl _).trans ((A_eq m hO c 7).trans (V_main_arg8 m c)))⟩) (run_main m ρ hO)

end Cert.KernelValue

end

end
-- ==== Proof.RefSoftmax.lean ====
/-
What the reference computes: the softmax of the scores.

The largest score of a row, the weights relative to it, their sum, and the normalised weights, each as the same thing over
the row's sequence of scores (the new tokens, then the cache).
-/
module

public import proofs.«01_k».proof.Proof.RefScores

@[expose] public section

noncomputable section

namespace Cert.RefScores

open Idealize.ShloMosaic Cert.ReferenceIdeal Cert.ReferenceIdeal.Gen Cert.ReferenceIdeal.Read

variable (A : Cert.Spec.Args)

/-- The largest score against the cache. -/
theorem cacheTop_eq (b : Fin 8) (r : Fin 128) (i : S8x4x32.Idx) (h0 : (i 0).val = b.val) (h1 : (i 1).val = r.val / 32)
    (h2 : (i 2).val = r.val % 32) :
    val_main_v67 (F := Ideal) A.x A.qRope A.scale A.kRope A.lengths A.codes i
      = (Finset.range 32768).sup fun p => A.score b r (4 + p) := by
  unfold val_main_v67
  generalize hy : val_main_v65 (F := Ideal) A.x A.qRope A.scale A.kRope A.lengths A.codes = y
  have hred := Host.reduce_eq_fold_single (max : EReal → EReal → EReal) y (val_main_cst_3 (F := Ideal))
    reducesTo_S8x4x32x32768_S8x4x32_d3 (by decide) h_S_ i
  refine hred.trans ?_
  rw [val_main_cst_3_apply, bot_eq]
  refine Online.fold_max_eq _ _ fun p => ?_
  rw [A.score_cache b r p, ← hy]
  exact cacheScore_eq A b r p _ h0 h1 h2 rfl

/-- The largest score against the new tokens. -/
theorem newTop_eq (b : Fin 8) (r : Fin 128) (i : S8x4x32.Idx) (h0 : (i 0).val = b.val) (h1 : (i 1).val = r.val / 32)
    (h2 : (i 2).val = r.val % 32) :
    val_main_v68 (F := Ideal) A.x A.qRope A.newScale A.newRope A.newCodes i = Online.top (A.score b r) 4 := by
  unfold val_main_v68
  generalize hy : val_main_v66 (F := Ideal) A.x A.qRope A.newScale A.newRope A.newCodes = y
  have hred := Host.reduce_eq_fold_single (max : EReal → EReal → EReal) y (val_main_cst_4 (F := Ideal))
    reducesTo_S8x4x32x4_S8x4x32_d3 (by decide) h_S_ i
  refine hred.trans ?_
  rw [val_main_cst_4_apply, bot_eq]
  refine Online.fold_max_eq _ _ fun j => ?_
  rw [A.score_new b r j, ← hy]
  exact newScore_eq A b r j _ h0 h1 h2 rfl

/-- The largest score of a row. -/
theorem top_eq (b : Fin 8) (r : Fin 128) (i : S8x4x32.Idx) (h0 : (i 0).val = b.val) (h1 : (i 1).val = r.val / 32)
    (h2 : (i 2).val = r.val % 32) :
    val_main_v69 (F := Ideal) A.x A.qRope A.scale A.kRope A.lengths A.newScale A.newRope A.codes A.newCodes i
      = Online.top (A.score b r) (4 + 32768) := by
  rw [val_main_v69_apply, cacheTop_eq A b r i h0 h1 h2, newTop_eq A b r i h0 h1 h2, Online.top_add]
  exact max_comm _ _

/-- A cache position's weight. -/
theorem cacheWeight_eq (b : Fin 8) (r : Fin 128) (p : Fin 32768) (i : S8x4x32x32768.Idx) (h0 : (i 0).val = b.val)
    (h1 : (i 1).val = r.val / 32) (h2 : (i 2).val = r.val % 32) (h3 : (i 3).val = p.val) :
    val_main_v73 (F := Ideal) A.x A.qRope A.scale A.kRope A.lengths A.newScale A.newRope A.codes A.newCodes i
      = Ideal.exp (A.score b r (4 + p.val) - Online.top (A.score b r) (4 + 32768)) := by
  rw [val_main_v73_apply, val_main_v72_apply, val_main_v71_apply, val_main_v70_apply, cacheScore_eq A b r p i h0 h1 h2 h3,
    top_eq A b r _ h0 h1 h2, A.score_cache b r p]
  rfl

/-- A new token's weight. -/
theorem newWeight_eq (b : Fin 8) (r : Fin 128) (j : Fin 4) (i : S8x4x32x4.Idx) (h0 : (i 0).val = b.val)
    (h1 : (i 1).val = r.val / 32) (h2 : (i 2).val = r.val % 32) (h3 : (i 3).val = j.val) :
    val_main_v76 (F := Ideal) A.x A.qRope A.scale A.kRope A.lengths A.newScale A.newRope A.codes A.newCodes i
      = Ideal.exp (A.score b r j.val - Online.top (A.score b r) (4 + 32768)) := by
  rw [val_main_v76_apply, val_main_v75_apply, val_main_v74_apply, val_main_v70_apply, newScore_eq A b r j i h0 h1 h2 h3,
    top_eq A b r _ h0 h1 h2, A.score_new b r j]
  rfl

/-- The sum of a row's weights. -/
theorem wsum_eq (b : Fin 8) (r : Fin 128) (i : S8x4x32.Idx) (h0 : (i 0).val = b.val) (h1 : (i 1).val = r.val / 32)
    (h2 : (i 2).val = r.val % 32) :
    val_main_v79 (F := Ideal) A.x A.qRope A.scale A.kRope A.lengths A.newScale A.newRope A.codes A.newCodes i
      = Online.wsum (A.score b r) (4 + 32768) := by
  rw [val_main_v79_apply, val_main_v77_apply, val_main_v78_apply, val_main_cst_5_apply, val_main_cst_6_apply,
    Online.wsum, Finset.sum_range_add, add_comm (∑ i ∈ _, _)]
  simp only [Ideal.ofBits_def, Ideal.ofBits_zero_f32, zero_add, Ideal.addf_def]
  refine congrArg₂ _ ?_ ?_
  · exact Online.sum_fin_eq _ _ fun p => cacheWeight_eq A b r p _ h0 h1 h2 rfl
  · exact Online.sum_fin_eq _ _ fun j => newWeight_eq A b r j _ h0 h1 h2 rfl

/-- Whether a row has any weight, as the reference compares it. -/
theorem pos_eq (w : EReal) (x y : EReal) :
    Scalar.select (FloatOps.cmpf (F := Ideal) (φ := .f32) .ogt w (FloatOps.ofBits (F := Ideal) .f32 0#32)) x y = if 0 < w then x else y := by
  rw [Ideal.ofBits_def, Ideal.ofBits_zero_f32, Ideal.cmpf_def]
  by_cases h : 0 < w <;> simp [h, Ideal.cmp, WordCmp.select_one, WordCmp.select_zero]

/-- A cache position's normalised weight. -/
theorem cacheProb_eq (b : Fin 8) (r : Fin 128) (p : Fin 32768) (i : S8x4x32x32768.Idx) (h0 : (i 0).val = b.val)
    (h1 : (i 1).val = r.val / 32) (h2 : (i 2).val = r.val % 32) (h3 : (i 3).val = p.val) :
    val_main_v86 (F := Ideal) A.x A.qRope A.scale A.kRope A.lengths A.newScale A.newRope A.codes A.newCodes i
      = Online.prob (A.score b r) (4 + 32768) (4 + p.val) := by
  rw [val_main_v86_apply, val_main_v85_apply, val_main_call2_v1_apply, val_main_v82_apply, val_main_v80_apply,
    val_main_v81_apply, val_main_cst_7_apply, val_main_v84_apply, val_main_v83_apply, val_main_v80_apply,
    val_main_call2_v2_apply, val_main_call2_v0_apply, val_main_cst_8_apply, cacheWeight_eq A b r p i h0 h1 h2 h3,
    wsum_eq A b r _ h0 h1 h2]
  refine (pos_eq _ _ _).trans ?_
  rw [Ideal.ofBits_def, Ideal.ofBits_zero_f32]
  rfl

/-- A new token's normalised weight. -/
theorem newProb_eq (b : Fin 8) (r : Fin 128) (j : Fin 4) (i : S8x4x32x4.Idx) (h0 : (i 0).val = b.val)
    (h1 : (i 1).val = r.val / 32) (h2 : (i 2).val = r.val % 32) (h3 : (i 3).val = j.val) :
    val_main_v92 (F := Ideal) A.x A.qRope A.scale A.kRope A.lengths A.newScale A.newRope A.codes A.newCodes i
      = Online.prob (A.score b r) (4 + 32768) j.val := by
  rw [val_main_v92_apply, val_main_v91_apply, val_main_call3_v1_apply, val_main_v88_apply, val_main_v80_apply,
    val_main_v87_apply, val_main_cst_9_apply, val_main_v90_apply, val_main_v89_apply, val_main_v80_apply,
    val_main_call3_v2_apply, val_main_call3_v0_apply, val_main_cst_10_apply, newWeight_eq A b r j i h0 h1 h2 h3,
    wsum_eq A b r _ h0 h1 h2]
  refine (pos_eq _ _ _).trans ?_
  rw [Ideal.ofBits_def, Ideal.ofBits_zero_f32]
  rfl

end Cert.RefScores

end
-- ==== Proof.RefOut.lean ====
/-
What the reference computes: the output array.

Each block of 128 columns of the cache's part is the normalised weights times the latents of that block; the four blocks
stand side by side, the new tokens' part is added, and the rows of one batch are laid out as 128 rows.
-/
module

public import proofs.«01_k».proof.Proof.RefSoftmax

@[expose] public section

noncomputable section

namespace Cert.RefScores

open Idealize.ShloMosaic Cert.ReferenceIdeal Cert.ReferenceIdeal.Gen Cert.ReferenceIdeal.Read

variable (A : Cert.Spec.Args)

/-- The cache's part of an output: normalised weights times latents. -/
def cacheOut (b : Fin 8) (r : Fin 128) (c : Fin 512) : EReal :=
  ∑ p : Fin 32768, Online.prob (A.score b r) (4 + 32768) (4 + p.val) * A.latent b p c

/-- A cache latent, code times scale, from the coordinates of the two. -/
theorem latent_at (b : Fin 8) (p : Fin 32768) (c : Fin 512) (i : S8x32768x512.Idx) (k : S8x32768x4.Idx)
    (i0 : (i 0).val = b.val) (i1 : (i 1).val = p.val) (i2 : (i 2).val = c.val)
    (k0 : (k 0).val = b.val) (k1 : (k 1).val = p.val) (k2 : (k 2).val = c.val / 128) :
    A.codes i * A.scale k = A.latent b p c := by
  rw [Cert.Spec.Args.latent, at3 A.codes i b p c i0 i1 i2, at3 A.scale k b p ⟨c.val / 128, by omega⟩ k0 k1 k2]

/-- One of the four products of the normalised weights with a block of latents. -/
theorem block_out (b : Fin 8) (r : Fin 128) (c : Fin 512) (L : Fin 32768 → S8x4x32x32768.Idx)
    (V : Fin 32768 → EReal) (l0 : ∀ p, (L p 0).val = b.val) (l1 : ∀ p, (L p 1).val = r.val / 32)
    (l2 : ∀ p, (L p 2).val = r.val % 32) (l3 : ∀ p, (L p 3).val = p.val) (hV : ∀ p, V p = A.latent b p c) :
    ∑ p : Fin 32768, val_main_v86 (F := Ideal) A.x A.qRope A.scale A.kRope A.lengths A.newScale A.newRope A.codes A.newCodes (L p) * V p
      = cacheOut A b r c :=
  Finset.sum_congr rfl fun p _ => congrArg₂ _ (cacheProb_eq A b r p _ (l0 p) (l1 p) (l2 p) (l3 p)) (hV p)

/-- The cache's part of the output, the four blocks side by side. -/
theorem cacheOut_eq (b : Fin 8) (r : Fin 128) (c : Fin 512) (i : S8x4x32x512.Idx) (h0 : (i 0).val = b.val)
    (h1 : (i 1).val = r.val / 32) (h2 : (i 2).val = r.val % 32) (h3 : (i 3).val = c.val) :
    val_main_v117 (F := Ideal) A.x A.qRope A.scale A.kRope A.lengths A.newScale A.newRope A.codes A.newCodes i
      = cacheOut A b r c := by
  unfold val_main_v117
  pointwise
  have hc := c.isLt
  by_cases g0 : (i 3).val < 128
  · rw [dif_pos g0, val_main_v98_apply]
    refine block_out A b r c _ _ (fun _ => h0) (fun _ => h1) (fun _ => h2) (fun _ => rfl) fun p => ?_
    rw [val_main_v97_apply, val_main_v93_apply, val_main_v96_apply, val_main_v95_apply, val_main_v94_apply]
    apply latent_at A b p c <;> simp [ix4, h0, h3] <;> omega
  rw [dif_neg g0]
  by_cases g1 : (i 3).val - 128 < 128
  · rw [dif_pos g1, val_main_v104_apply]
    refine block_out A b r c _ _ (fun _ => h0) (fun _ => h1) (fun _ => h2) (fun _ => rfl) fun p => ?_
    rw [val_main_v103_apply, val_main_v99_apply, val_main_v102_apply, val_main_v101_apply, val_main_v100_apply]
    apply latent_at A b p c <;> simp [ix4, h0, h3] <;> omega
  rw [dif_neg g1]
  by_cases g2 : (i 3).val - 128 - 128 < 128
  · rw [dif_pos g2, val_main_v110_apply]
    refine block_out A b r c _ _ (fun _ => h0) (fun _ => h1) (fun _ => h2) (fun _ => rfl) fun p => ?_
    rw [val_main_v109_apply, val_main_v105_apply, val_main_v108_apply, val_main_v107_apply, val_main_v106_apply]
    apply latent_at A b p c <;> simp [ix4, h0, h3] <;> omega
  rw [dif_neg g2]
  · rw [val_main_v116_apply]
    refine block_out A b r c _ _ (fun _ => h0) (fun _ => h1) (fun _ => h2) (fun _ => rfl) fun p => ?_
    rw [val_main_v115_apply, val_main_v111_apply, val_main_v114_apply, val_main_v113_apply, val_main_v112_apply]
    apply latent_at A b p c <;> simp [ix4, h0, h3] <;> omega

/-- The reference's output, at a row of the reshaped array. -/
theorem out_eq (b : Fin 8) (r : Fin 128) (c : Fin 512) (i : S8x128x512.Idx) (h0 : (i 0).val = b.val)
    (h1 : (i 1).val = r.val) (h2 : (i 2).val = c.val) :
    val_main_v121 (F := Ideal) A.x A.qRope A.scale A.kRope A.lengths A.newScale A.newRope A.codes A.newCodes i
      = A.out b r c := by
  rw [val_main_v121_apply, val_main_v120_apply, val_main_v119_apply, val_main_v118_apply]
  have e0 : (idx_main_v121 i 0).val = b.val := by simp only [h0, h1, h2]; omega
  have e1 : (idx_main_v121 i 1).val = r.val / 32 := by simp only [h0, h1, h2]; omega
  have e2 : (idx_main_v121 i 2).val = r.val % 32 := by simp only [h0, h1, h2]; omega
  have e3 : (idx_main_v121 i 3).val = c.val := by simp only [h0, h1, h2]; omega
  rw [cacheOut_eq A b r c _ e0 e1 e2 e3, Cert.Spec.Args.out, Finset.sum_range_add, add_comm (∑ i ∈ _, _)]
  rw [Ideal.truncf_def, Ideal.addf_def]
  refine congrArg₂ _ ?_ ?_
  · exact Online.sum_fin_eq _ _ fun p => by rw [A.value_cache b c p]
  · refine Online.sum_fin_eq _ _ fun j => ?_
    rw [A.value_new b c j]
    exact congrArg₂ _ (newProb_eq A b r j _ e0 e1 e2 rfl) (newLatent_at A _ b j c e0 rfl e3)

end Cert.RefScores

end
-- ==== Proof.RefRegion.lean ====
/-
What the reference's own cast leaves: the codes.

The reference casts the codes in one call before everything else.  Over the extended reals that cast is the identity, so the
two arrays it leaves are the two arrays of codes.
-/
module

public import proofs.«01_k».proof.Proof.RefOut
public import proofs.«01_k».proof.Proof.Gen.ReferenceIdeal.Run
public import Idealize.ShloMosaic.Lib.Pipeline.ReadBack
public import Idealize.ShloMosaic.Lib.Pipeline.ValueKit

@[expose] public section

set_option maxRecDepth 16384

noncomputable section

namespace Cert.RefRegion

open Idealize.ShloMosaic Idealize.ShloMosaic.TcCoe Idealize.SL.Sem Cert.ReferenceIdeal.Value Cert.ReferenceIdeal Cert.ReferenceIdeal.Gen

variable (m : (ℓ : Loc nD τ sig) → Buf (Elt Ideal) ℓ) (c : Dev nD)

/-- The cast codes of the cache are the codes. -/
theorem codes_eq : reg_main_v0_0 m c = (m ((c.tc : Thread nD τ).loc main_arg2) : Vec Ideal S8x32768x512 .fp8e4m3) := by
  refine (dats m 0 c).arrAt_eq_of_covers 2 _ (by decide +kernel) fun t hf y => ?_
  blk_simp
  rw [after0_2]
  frame_out
  pointwise [k0_pay1, k0_pay2]
  blk_ext [iblk, V] <;> rfl

/-- The cast codes of the new tokens are the codes. -/
theorem newCodes_eq : reg_main_v0_1 m c = (m ((c.tc : Thread nD τ).loc main_arg6) : Vec Ideal S8x4x512 .fp8e4m3) := by
  refine (dats m 0 c).arrAt_eq_of_covers 3 _ (by decide +kernel) fun t hf y => ?_
  blk_simp
  rw [after0_3]
  frame_out
  pointwise [k0_pay1, k0_pay2]
  blk_ext [iblk, V] <;> rfl

/-- The reference's arguments. -/
def args : Cert.Spec.Args where
  x := m ((c.tc : Thread nD τ).loc main_arg0)
  qRope := m ((c.tc : Thread nD τ).loc main_arg1)
  codes := m ((c.tc : Thread nD τ).loc main_arg2)
  scale := m ((c.tc : Thread nD τ).loc main_arg3)
  kRope := m ((c.tc : Thread nD τ).loc main_arg4)
  lengths := m ((c.tc : Thread nD τ).loc main_arg5)
  newCodes := m ((c.tc : Thread nD τ).loc main_arg6)
  newScale := m ((c.tc : Thread nD τ).loc main_arg7)
  newRope := m ((c.tc : Thread nD τ).loc main_arg8)

/-- The reference's run: it ends with the softmax's output in its result and its arguments unchanged. -/
theorem run_out (ρ : Dev nD → PrngReg) :
    θ_run defs (onTc (τ := τ) (main (F := Ideal))) ⟨m, fun _ => 0, ρ⟩ fun r => ∀ c : Dev nD,
      r.2.mem ((c.tc : Thread nD τ).loc main_v121)
        = (fun i : S8x128x512.Idx => (args m c).out ⟨(i 0).val, (i 0).isLt⟩ ⟨(i 1).val, (i 1).isLt⟩ ⟨(i 2).val, (i 2).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨((h c).1.trans (Read.val_main_v121_eq (exitV m c))).trans ?_, (h c).2⟩) (run m ρ)
  rw [exit_main_arg0, exit_main_arg1, exit_main_arg3, exit_main_arg4, exit_main_arg5, exit_main_arg7, exit_main_arg8,
    exit_main_v0_0, exit_main_v0_1, codes_eq, newCodes_eq]
  exact funext fun i => Cert.RefScores.out_eq (args m c) _ _ _ i rfl rfl rfl

end Cert.RefRegion

end
-- ==== Proof.Equation.lean ====
/-
The equation: from the same arguments, with lengths that can be rounded up to whole tiles, kernel and reference end with one array.
-/
module

public import proofs.«01_k».proof.Defs
public import proofs.«01_k».proof.Proof.KernelRun
public import proofs.«01_k».proof.Proof.RefRegion

@[expose] public section

set_option maxRecDepth 16384

noncomputable section

namespace Cert.Equation

open Idealize.ShloMosaic Idealize.ShloMosaic.TcCoe Idealize.SL.Sem Cert.RefScores

/-- The side conditions of the precondition's operations. -/
instance preFacts : Cert.Pre_roundable.Facts where
  bcast_S_S8 := ⟨fun a => a.elim0, fun a => a.elim0⟩

/-- The precondition says of every length that it is at most `2 ^ 31 - 1024`, as signed words. -/
theorem lengths_le (m : (ℓ : Loc Cert.KernelIdeal.nD Cert.KernelIdeal.τ Cert.KernelIdeal.sig) → Buf (Elt Ideal) ℓ)
    (h : Cert.Pre_KernelIdeal_roundable m) (c : Dev Cert.KernelIdeal.nD) (b : Fin 8) :
    ((Cert.KernelValue.args m c).lengths (ix1 b)).sle 2147482624#32 = true := by
  have e := congrFun (h c) (ix1 b)
  exact (BitVec.ofBool_eq_iff_eq (b := _) (b' := true)).1 e

/-- Memories that agree on the arguments give the two programs the same arguments of the common mathematics. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.RefRegion.args m' c = Cert.KernelValue.args m c := by
  unfold Cert.RefRegion.args Cert.KernelValue.args
  rw [h0, h1, h2, h3, h4, h5, h6, h7, h8]

/-- Kernel and reference compute the same array over the extended reals. -/
theorem algebraic : Cert.algebraic_KernelIdeal_ReferenceIdeal_pre_roundable := by
  intro m g m' g' hP hA
  refine ⟨fun c => Cert.KernelValue.outArray m c, Cert.KernelValue.run_out m g (lengths_le m hP), ?_⟩
  refine (θ_run Cert.ReferenceIdeal.defs _ _).mono (fun r h c => ⟨(h c).1.trans ?_, (h c).2⟩) (Cert.RefRegion.run_out m' g')
  obtain ⟨h0, h1, h2, h3, h4, h5, h6, h7, h8⟩ := hA c
  rw [args_eq m m' c h0 h1 h2 h3 h4 h5 h6 h7 h8]
  rfl

end Cert.Equation

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Table
public import proofs.«01_k».proof.Proof.Equation
public import Idealize.ShloMosaic.Adequacy
public import Idealize.ShloMosaic.Init

@[expose] public section

noncomputable section

namespace Cert.Proof

open Idealize.ShloMosaic Idealize.SL.Sem

/-- The kernel, at the bit-exact instance, terminates without fault, leaves its arguments unchanged and its semaphores at zero. -/
theorem frameKernel : Cert.quiescent_Kernel := fun m ρ _ => Cert.Kernel.Gen.frame m ρ (Cert.Table.okKernel _)

/-- The same of the ideal kernel. -/
theorem frameKernelIdeal : Cert.quiescent_KernelIdeal := fun m ρ _ => Cert.KernelIdeal.Gen.frame m ρ (Cert.Table.okIdeal _)

/-- The same of the ideal reference. -/
theorem frameReferenceIdeal : Cert.quiescent_ReferenceIdeal := fun m ρ _ => Cert.ReferenceIdeal.Gen.frame m ρ

/-- The ideal kernel is the kernel with its mask constant read as minus infinity. -/
theorem preserves : Cert.preserves_Kernel_KernelIdeal :=
  IdealRules.named_const.statement Cert.KernelIdeal.κ "mask" .f32 0xF149F2CA#32 ⊥ rfl

/-- The certificate: the frames, the reading of the mask constant, and the equation. -/
theorem claim : Cert.Claim :=
  ⟨Cert.Kernel.Gen.facts, Cert.KernelIdeal.Gen.facts, Cert.ReferenceIdeal.Gen.facts, Cert.Equation.preFacts,
    frameKernel, frameKernelIdeal, fun m ρ _ => frameKernelIdeal m ρ trivial, frameReferenceIdeal,
    fun m ρ _ => frameReferenceIdeal m ρ trivial, preserves, Cert.Equation.algebraic⟩

end Cert.Proof

end

end
